-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x64 : Shape := ⟨3, ![16, 2048, 64]⟩
abbrev S1x64x8x16 : Shape := ⟨4, ![1, 64, 8, 16]⟩
abbrev S64x128 : Shape := ⟨2, ![64, 128]⟩
abbrev S16x8x2048 : Shape := ⟨3, ![16, 8, 2048]⟩
abbrev S1x2048x64 : Shape := ⟨3, ![1, 2048, 64]⟩
abbrev S1x8x2048 : Shape := ⟨3, ![1, 8, 2048]⟩
abbrev S2048x64 : Shape := ⟨2, ![2048, 64]⟩
abbrev S128x2048 : Shape := ⟨2, ![128, 2048]⟩
abbrev S16x2048 : Shape := ⟨2, ![16, 2048]⟩
abbrev S2048 : Shape := ⟨1, ![2048]⟩
abbrev S1x2048 : Shape := ⟨2, ![1, 2048]⟩
abbrev S8x2048 : Shape := ⟨2, ![8, 2048]⟩
abbrev S16x16384 : Shape := ⟨2, ![16, 16384]⟩

abbrev nBuf : Space → Nat
  | .hbm => 7
  | .vmem => 9
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S1x64x8x16, .f32⟩
  | .hbm, ⟨3, _⟩ => ⟨S64x128, .f32⟩
  | .hbm, ⟨4, _⟩ => ⟨S16x2048x64, .f32⟩
  | .hbm, ⟨5, _⟩ => ⟨S16x8x2048, .i32⟩
  | .hbm, ⟨6, _⟩ => ⟨S16x16384, .i32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S64x128, .f32⟩
  | .local _ .vmem, ⟨5, _⟩ => ⟨S1x2048x64, .f32⟩
  | .local _ .vmem, ⟨6, _⟩ => ⟨S1x2048x64, .f32⟩
  | .local _ .vmem, ⟨7, _⟩ => ⟨S1x8x2048, .i32⟩
  | .local _ .vmem, ⟨8, _⟩ => ⟨S1x8x2048, .i32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x2048x64 : Shape := ⟨3, ![16, 2048, 64]⟩
abbrev S1x64x8x16 : Shape := ⟨4, ![1, 64, 8, 16]⟩
abbrev S16x64x8x16 : Shape := ⟨4, ![16, 64, 8, 16]⟩
abbrev S16x8x16x2048 : Shape := ⟨4, ![16, 8, 16, 2048]⟩
abbrev S16x8x2048x16 : Shape := ⟨4, ![16, 8, 2048, 16]⟩
abbrev S16x8x2048x32 : Shape := ⟨4, ![16, 8, 2048, 32]⟩
abbrev S_ : Shape := ⟨0, ![]⟩
abbrev S16x8x2048 : Shape := ⟨3, ![16, 8, 2048]⟩
abbrev S8 : Shape := ⟨1, ![8]⟩
abbrev S1x8x1 : Shape := ⟨3, ![1, 8, 1]⟩
abbrev S16x16384 : Shape := ⟨2, ![16, 16384]⟩
abbrev S16384 : Shape := ⟨1, ![16384]⟩
abbrev S1x16384 : Shape := ⟨2, ![1, 16384]⟩
abbrev S16x16384x1 : Shape := ⟨3, ![16, 16384, 1]⟩
abbrev S1 : Shape := ⟨1, ![1]⟩
abbrev S1x1x1 : Shape := ⟨3, ![1, 1, 1]⟩
abbrev S16x16384x64 : Shape := ⟨3, ![16, 16384, 64]⟩
abbrev S16x256x64 : Shape := ⟨3, ![16, 256, 64]⟩
abbrev S16x256x64x64 : Shape := ⟨4, ![16, 256, 64, 64]⟩
abbrev S16x256x64x1 : Shape := ⟨4, ![16, 256, 64, 1]⟩
abbrev S16x1x64x64 : Shape := ⟨4, ![16, 1, 64, 64]⟩
abbrev S16x255x64x64 : Shape := ⟨4, ![16, 255, 64, 64]⟩
abbrev S16x256x128x64 : Shape := ⟨4, ![16, 256, 128, 64]⟩
abbrev S16x1x64 : Shape := ⟨3, ![16, 1, 64]⟩
abbrev S16x255x64 : Shape := ⟨3, ![16, 255, 64]⟩
abbrev S16x256x128 : Shape := ⟨3, ![16, 256, 128]⟩
abbrev S16x256x64x128 : Shape := ⟨4, ![16, 256, 64, 128]⟩
abbrev S16x256x1x128 : Shape := ⟨4, ![16, 256, 1, 128]⟩
abbrev S1x1 : Shape := ⟨2, ![1, 1]⟩
abbrev S1x1x1x1 : Shape := ⟨4, ![1, 1, 1, 1]⟩
abbrev S16x8x2048x64 : Shape := ⟨4, ![16, 8, 2048, 64]⟩
abbrev S16x8x2048x1 : Shape := ⟨4, ![16, 8, 2048, 1]⟩
abbrev S16x2048x1 : Shape := ⟨3, ![16, 2048, 1]⟩
abbrev S16x1x2048x1 : Shape := ⟨4, ![16, 1, 2048, 1]⟩

abbrev nBuf : Space → Nat
  | .hbm => 313
  | .vmem => 2
  | .smem => 0
  | _ => 0

abbrev hbmTy0_0 (i : Nat) : BufTy := match i % 128 with
  | 0 => ⟨S16x2048x64, .f32⟩
  | 1 => ⟨S16x2048x64, .f32⟩
  | 2 => ⟨S1x64x8x16, .f32⟩
  | 3 => ⟨S16x64x8x16, .f32⟩
  | 4 => ⟨S16x8x16x2048, .f32⟩
  | 5 => ⟨S16x8x2048x16, .f32⟩
  | 6 => ⟨S16x8x2048x16, .f32⟩
  | 7 => ⟨S16x8x2048x32, .f32⟩
  | 8 => ⟨S16x8x2048x32, .i32⟩
  | 9 => ⟨S_, .f32⟩
  | 10 => ⟨S_, .i32⟩
  | 11 => ⟨S16x8x2048, .f32⟩
  | 12 => ⟨S16x8x2048, .i32⟩
  | 13 => ⟨S8, .i32⟩
  | 14 => ⟨S_, .i32⟩
  | 15 => ⟨S8, .i32⟩
  | 16 => ⟨S8, .i32⟩
  | 17 => ⟨S1x8x1, .i32⟩
  | 18 => ⟨S16x8x2048, .i32⟩
  | 19 => ⟨S16x8x2048, .i32⟩
  | 20 => ⟨S16x16384, .i32⟩
  | 21 => ⟨S16384, .i32⟩
  | 22 => ⟨S1x16384, .i32⟩
  | 23 => ⟨S_, .i32⟩
  | 24 => ⟨S16x16384, .i32⟩
  | 25 => ⟨S16x16384, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S1x16384, .i32⟩
  | 33 => ⟨S1x16384, .i32⟩
  | 34 => ⟨S_, .i32⟩
  | 35 => ⟨S1x16384, .i32⟩
  | 36 => ⟨S1x16384, .i1⟩
  | 37 => ⟨S_, .i32⟩
  | 38 => ⟨S1x16384, .i32⟩
  | 39 => ⟨S1x16384, .i1⟩
  | 40 => ⟨S_, .i32⟩
  | 41 => ⟨S_, .i1⟩
  | 42 => ⟨S1x16384, .i1⟩
  | 43 => ⟨S1x16384, .i1⟩
  | 44 => ⟨S1x16384, .i1⟩
  | 45 => ⟨S1x16384, .i32⟩
  | 46 => ⟨S1x16384, .i32⟩
  | 47 => ⟨S1x16384, .i32⟩
  | 48 => ⟨S16x16384, .i32⟩
  | 49 => ⟨S16x16384, .i32⟩
  | 50 => ⟨S16x16384, .i32⟩
  | 51 => ⟨S16x16384, .i32⟩
  | 52 => ⟨S16x16384, .i32⟩
  | 53 => ⟨S_, .i32⟩
  | 54 => ⟨S16x16384, .i32⟩
  | 55 => ⟨S16x16384, .i1⟩
  | 56 => ⟨S_, .i32⟩
  | 57 => ⟨S16x16384, .i32⟩
  | 58 => ⟨S16x16384, .i32⟩
  | 59 => ⟨S16x16384, .i32⟩
  | 60 => ⟨S16x16384x1, .i32⟩
  | 61 => ⟨S1, .i32⟩
  | 62 => ⟨S_, .i32⟩
  | 63 => ⟨S16x16384x1, .i32⟩
  | 64 => ⟨S16x16384x1, .i1⟩
  | 65 => ⟨S1x1x1, .i32⟩
  | 66 => ⟨S16x16384x1, .i32⟩
  | 67 => ⟨S16x16384x1, .i1⟩
  | 68 => ⟨S16x16384x1, .i1⟩
  | 69 => ⟨S_, .i1⟩
  | 70 => ⟨S16x16384, .i1⟩
  | 71 => ⟨S16x16384, .i32⟩
  | 72 => ⟨S_, .i32⟩
  | 73 => ⟨S16x16384, .i32⟩
  | 74 => ⟨S16x16384, .i32⟩
  | 75 => ⟨S16x16384, .i32⟩
  | 76 => ⟨S_, .i32⟩
  | 77 => ⟨S16x16384, .i32⟩
  | 78 => ⟨S16x16384, .i1⟩
  | 79 => ⟨S_, .i32⟩
  | 80 => ⟨S16x16384, .i32⟩
  | 81 => ⟨S16x16384, .i32⟩
  | 82 => ⟨S16x16384, .i32⟩
  | 83 => ⟨S16x16384x1, .i32⟩
  | 84 => ⟨S1, .i32⟩
  | 85 => ⟨S_, .i32⟩
  | 86 => ⟨S16x16384x1, .i32⟩
  | 87 => ⟨S16x16384x1, .i1⟩
  | 88 => ⟨S1x1x1, .i32⟩
  | 89 => ⟨S16x16384x1, .i32⟩
  | 90 => ⟨S16x16384x1, .i1⟩
  | 91 => ⟨S16x16384x1, .i1⟩
  | 92 => ⟨S_, .i1⟩
  | 93 => ⟨S16x16384, .i1⟩
  | 94 => ⟨S16x16384, .i32⟩
  | 95 => ⟨S_, .i32⟩
  | 96 => ⟨S16x16384, .i32⟩
  | 97 => ⟨S16x16384, .i32⟩
  | 98 => ⟨S16x16384, .i32⟩
  | 99 => ⟨S16x16384, .i32⟩
  | 100 => ⟨S16x16384, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S16x16384, .i32⟩
  | 108 => ⟨S16x16384, .i32⟩
  | 109 => ⟨S_, .i32⟩
  | 110 => ⟨S16x16384, .i32⟩
  | 111 => ⟨S16x16384, .i1⟩
  | 112 => ⟨S_, .i32⟩
  | 113 => ⟨S16x16384, .i32⟩
  | 114 => ⟨S16x16384, .i1⟩
  | 115 => ⟨S_, .i32⟩
  | 116 => ⟨S_, .i1⟩
  | 117 => ⟨S16x16384, .i1⟩
  | 118 => ⟨S16x16384, .i1⟩
  | 119 => ⟨S16x16384, .i1⟩
  | 120 => ⟨S16x16384, .i32⟩
  | 121 => ⟨S16x16384, .i32⟩
  | 122 => ⟨S16x16384, .i32⟩
  | 123 => ⟨S16x16384x1, .i32⟩
  | 124 => ⟨S_, .i32⟩
  | 125 => ⟨S16x16384x1, .i32⟩
  | 126 => ⟨S16x16384x1, .i1⟩
  | 127 => ⟨S_, .i32⟩
  | _ => ⟨S16x2048x64, .f32⟩

abbrev hbmTy0_1 (i : Nat) : BufTy := match i % 128 with
  | 0 => ⟨S16x16384x1, .i32⟩
  | 1 => ⟨S16x16384x1, .i32⟩
  | 2 => ⟨S16x16384x1, .i32⟩
  | 3 => ⟨S1, .i32⟩
  | 4 => ⟨S_, .i32⟩
  | 5 => ⟨S16x16384x1, .i32⟩
  | 6 => ⟨S16x16384x1, .i1⟩
  | 7 => ⟨S1x1x1, .i32⟩
  | 8 => ⟨S16x16384x1, .i32⟩
  | 9 => ⟨S16x16384x1, .i1⟩
  | 10 => ⟨S16x16384x1, .i1⟩
  | 11 => ⟨S_, .i1⟩
  | 12 => ⟨S16x16384, .i1⟩
  | 13 => ⟨S16x16384x64, .f32⟩
  | 14 => ⟨S16x16384x64, .i1⟩
  | 15 => ⟨S_, .f32⟩
  | 16 => ⟨S16x16384x64, .f32⟩
  | 17 => ⟨S16x16384x64, .f32⟩
  | 18 => ⟨S16x16384x1, .i32⟩
  | 19 => ⟨S_, .i32⟩
  | 20 => ⟨S16x16384x1, .i32⟩
  | 21 => ⟨S16x16384x1, .i1⟩
  | 22 => ⟨S_, .i32⟩
  | 23 => ⟨S16x16384x1, .i32⟩
  | 24 => ⟨S16x16384x1, .i32⟩
  | 25 => ⟨S16x16384x1, .i32⟩
  | 26 => ⟨S1, .i32⟩
  | 27 => ⟨S_, .i32⟩
  | 28 => ⟨S16x16384x1, .i32⟩
  | 29 => ⟨S16x16384x1, .i1⟩
  | 30 => ⟨S1x1x1, .i32⟩
  | 31 => ⟨S16x16384x1, .i32⟩
  | 32 => ⟨S16x16384x1, .i1⟩
  | 33 => ⟨S16x16384x1, .i1⟩
  | 34 => ⟨S_, .i1⟩
  | 35 => ⟨S16x16384, .i1⟩
  | 36 => ⟨S16x16384x64, .f32⟩
  | 37 => ⟨S16x16384x64, .i1⟩
  | 38 => ⟨S_, .f32⟩
  | 39 => ⟨S16x16384x64, .f32⟩
  | 40 => ⟨S16x16384x64, .f32⟩
  | 41 => ⟨S16x256x64, .i32⟩
  | 42 => ⟨S16x256x64x64, .f32⟩
  | 43 => ⟨S16x256x64x64, .f32⟩
  | 44 => ⟨S16x256x64x64, .f32⟩
  | 45 => ⟨S_, .f32⟩
  | 46 => ⟨S16x256x64, .f32⟩
  | 47 => ⟨S16x256x64x1, .f32⟩
  | 48 => ⟨S16x256x64x1, .f32⟩
  | 49 => ⟨S_, .f32⟩
  | 50 => ⟨S16x256x64x1, .f32⟩
  | 51 => ⟨S16x256x64x1, .f32⟩
  | 52 => ⟨S16x256x64x64, .f32⟩
  | 53 => ⟨S16x256x64x64, .f32⟩
  | 54 => ⟨S16x1x64x64, .f32⟩
  | 55 => ⟨S16x255x64x64, .f32⟩
  | 56 => ⟨S16x256x64x64, .f32⟩
  | 57 => ⟨S16x256x128x64, .f32⟩
  | 58 => ⟨S16x1x64x64, .f32⟩
  | 59 => ⟨S16x255x64x64, .f32⟩
  | 60 => ⟨S16x256x64x64, .f32⟩
  | 61 => ⟨S16x256x128x64, .f32⟩
  | 62 => ⟨S16x1x64, .i32⟩
  | 63 => ⟨S16x255x64, .i32⟩
  | 64 => ⟨S16x256x64, .i32⟩
  | 65 => ⟨S16x256x128, .i32⟩
  | 66 => ⟨S16x256x64x128, .f32⟩
  | 67 => ⟨S_, .f32⟩
  | 68 => ⟨S16x256x64x128, .f32⟩
  | 69 => ⟨S16x256x64x128, .f32⟩
  | 70 => ⟨S16x256x64x1, .i32⟩
  | 71 => ⟨S16x256x1x128, .i32⟩
  | 72 => ⟨S16x256x64x128, .i32⟩
  | 73 => ⟨S16x256x64x128, .i32⟩
  | 74 => ⟨S16x256x64x128, .i1⟩
  | 75 => ⟨S16x256x64x128, .f32⟩
  | 76 => ⟨S_, .f32⟩
  | 77 => ⟨S1x1, .f32⟩
  | 78 => ⟨S1x1, .f32⟩
  | 79 => ⟨S16x256x64x128, .f32⟩
  | 80 => ⟨S_, .f32⟩
  | 81 => ⟨S16x256x64x128, .f32⟩
  | 82 => ⟨S16x256x64x128, .f32⟩
  | 83 => ⟨S1x1x1x1, .f32⟩
  | 84 => ⟨S16x256x64x128, .f32⟩
  | 85 => ⟨S16x256x64x128, .f32⟩
  | 86 => ⟨S16x256x64x128, .f32⟩
  | 87 => ⟨S_, .f32⟩
  | 88 => ⟨S16x256x64, .f32⟩
  | 89 => ⟨S16x256x64x1, .f32⟩
  | 90 => ⟨S16x256x64x1, .f32⟩
  | 91 => ⟨S_, .f32⟩
  | 92 => ⟨S16x256x64x1, .f32⟩
  | 93 => ⟨S16x256x64x1, .i1⟩
  | 94 => ⟨S_, .f32⟩
  | 95 => ⟨S_, .f32⟩
  | 96 => ⟨S16x256x64x1, .f32⟩
  | 97 => ⟨S16x256x64x1, .f32⟩
  | 98 => ⟨S16x256x64x128, .f32⟩
  | 99 => ⟨S16x256x64x128, .f32⟩
  | 100 => ⟨S16x256x64x128, .f32⟩
  | 101 => ⟨S_, .f32⟩
  | 102 => ⟨S16x256x64, .f32⟩
  | 103 => ⟨S16x256x64x1, .f32⟩
  | 104 => ⟨S16x256x64x1, .f32⟩
  | 105 => ⟨S16x256x64x1, .f32⟩
  | 106 => ⟨S16x256x64x128, .f32⟩
  | 107 => ⟨S16x256x64x128, .f32⟩
  | 108 => ⟨S16x256x64x128, .f32⟩
  | 109 => ⟨S16x256x64x64, .f32⟩
  | 110 => ⟨S16x16384x64, .f32⟩
  | 111 => ⟨S16x16384, .f32⟩
  | 112 => ⟨S16x16384x1, .i32⟩
  | 113 => ⟨S_, .i32⟩
  | 114 => ⟨S16x16384x1, .i32⟩
  | 115 => ⟨S16x16384x1, .i1⟩
  | 116 => ⟨S_, .i32⟩
  | 117 => ⟨S16x16384x1, .i32⟩
  | 118 => ⟨S16x16384x1, .i32⟩
  | 119 => ⟨S16x16384x1, .i32⟩
  | 120 => ⟨S1, .i32⟩
  | 121 => ⟨S_, .i32⟩
  | 122 => ⟨S16x16384x1, .i32⟩
  | 123 => ⟨S16x16384x1, .i1⟩
  | 124 => ⟨S1x1x1, .i32⟩
  | 125 => ⟨S16x16384x1, .i32⟩
  | 126 => ⟨S16x16384x1, .i1⟩
  | 127 => ⟨S16x16384x1, .i1⟩
  | _ => ⟨S16x2048x64, .f32⟩

abbrev hbmTy0_2 (i : Nat) : BufTy := match i % 128 with
  | 0 => ⟨S_, .i1⟩
  | 1 => ⟨S16x16384, .i1⟩
  | 2 => ⟨S16x16384x64, .f32⟩
  | 3 => ⟨S16x16384x64, .i1⟩
  | 4 => ⟨S_, .f32⟩
  | 5 => ⟨S16x16384x64, .f32⟩
  | 6 => ⟨S16x16384x64, .f32⟩
  | 7 => ⟨S_, .i32⟩
  | 8 => ⟨S16x16384, .i32⟩
  | 9 => ⟨S16x16384, .i1⟩
  | 10 => ⟨S_, .i32⟩
  | 11 => ⟨S16x16384, .i32⟩
  | 12 => ⟨S16x16384, .i32⟩
  | 13 => ⟨S16x16384, .i32⟩
  | 14 => ⟨S16x16384x1, .i32⟩
  | 15 => ⟨S1, .i32⟩
  | 16 => ⟨S_, .i32⟩
  | 17 => ⟨S16x16384x1, .i32⟩
  | 18 => ⟨S16x16384x1, .i1⟩
  | 19 => ⟨S1x1x1, .i32⟩
  | 20 => ⟨S16x16384x1, .i32⟩
  | 21 => ⟨S16x16384x1, .i1⟩
  | 22 => ⟨S16x16384x1, .i1⟩
  | 23 => ⟨S_, .i1⟩
  | 24 => ⟨S16x16384, .i1⟩
  | 25 => ⟨S16x16384, .f32⟩
  | 26 => ⟨S_, .f32⟩
  | 27 => ⟨S16x16384, .f32⟩
  | 28 => ⟨S16x16384, .f32⟩
  | 29 => ⟨S16x8x2048x64, .f32⟩
  | 30 => ⟨S16x8x2048x1, .f32⟩
  | 31 => ⟨S_, .f32⟩
  | 32 => ⟨S16x2048x1, .f32⟩
  | 33 => ⟨S16x1x2048x1, .f32⟩
  | 34 => ⟨S16x1x2048x1, .f32⟩
  | 35 => ⟨S_, .f32⟩
  | 36 => ⟨S16x1x2048x1, .f32⟩
  | 37 => ⟨S16x1x2048x1, .i1⟩
  | 38 => ⟨S_, .f32⟩
  | 39 => ⟨S_, .f32⟩
  | 40 => ⟨S16x1x2048x1, .f32⟩
  | 41 => ⟨S16x1x2048x1, .f32⟩
  | 42 => ⟨S16x8x2048x1, .f32⟩
  | 43 => ⟨S16x8x2048x1, .f32⟩
  | 44 => ⟨S16x8x2048x1, .f32⟩
  | 45 => ⟨S_, .f32⟩
  | 46 => ⟨S16x2048x1, .f32⟩
  | 47 => ⟨S16x1x2048x1, .f32⟩
  | 48 => ⟨S16x1x2048x1, .f32⟩
  | 49 => ⟨S16x1x2048x1, .f32⟩
  | 50 => ⟨S16x8x2048x1, .f32⟩
  | 51 => ⟨S16x8x2048x1, .f32⟩
  | 52 => ⟨S16x8x2048x1, .f32⟩
  | 53 => ⟨S16x8x2048x64, .f32⟩
  | 54 => ⟨S16x8x2048x64, .f32⟩
  | 55 => ⟨S_, .f32⟩
  | 56 => ⟨S16x2048x64, .f32⟩
  | _ => ⟨S16x2048x64, .f32⟩

abbrev hbmTy (i : Nat) : BufTy := match i / 128 with
  | 0 => hbmTy0_0 i
  | 1 => hbmTy0_1 i
  | 2 => hbmTy0_2 i
  | _ => ⟨S16x2048x64, .f32⟩

abbrev bufTy : (tb : Table) → Fin (tcTables nBuf tb) → BufTy
  | .hbm, ⟨i, _⟩ => hbmTy i
  | .local _ .vmem, ⟨0, _⟩ => ⟨S1x1, .f32⟩
  | .local _ .vmem, ⟨1, _⟩ => ⟨S1x1, .f32⟩
  | _, _ => ⟨S16x2048x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call2_v0 : Ref sig .tc := ⟨.hbm, 50, rfl⟩
abbrev main_call2_v1_0 : Ref sig .tc := ⟨.hbm, 51, rfl⟩
abbrev main_v20 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_c_4 : Ref sig .tc := ⟨.hbm, 72, rfl⟩
abbrev main_call3_v14 : Ref sig .tc := ⟨.hbm, 73, rfl⟩
abbrev main_v21 : Ref sig .tc := ⟨.hbm, 74, rfl⟩
abbrev main_v22 : Ref sig .tc := ⟨.hbm, 75, rfl⟩
abbrev main_call4_c : Ref sig .tc := ⟨.hbm, 76, rfl⟩
abbrev main_call4_v0 : Ref sig .tc := ⟨.hbm, 77, rfl⟩
abbrev main_call4_v1 : Ref sig .tc := ⟨.hbm, 78, rfl⟩
abbrev main_call4_c_0 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_c_1 : Ref sig .tc := ⟨.hbm, 84, rfl⟩
abbrev main_call4_c_2 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_v9 : Ref sig .tc := ⟨.hbm, 89, rfl⟩
abbrev main_call4_v10 : Ref sig .tc := ⟨.hbm, 90, rfl⟩
abbrev main_call4_v11 : Ref sig .tc := ⟨.hbm, 91, rfl⟩
abbrev main_call4_c_3 : Ref sig .tc := ⟨.hbm, 92, rfl⟩
abbrev main_call4_v12 : Ref sig .tc := ⟨.hbm, 93, rfl⟩
abbrev main_call4_v13 : Ref sig .tc := ⟨.hbm, 94, rfl⟩
abbrev main_call4_c_4 : Ref sig .tc := ⟨.hbm, 95, rfl⟩
abbrev main_call4_v14 : Ref sig .tc := ⟨.hbm, 96, rfl⟩
abbrev main_v23 : Ref sig .tc := ⟨.hbm, 97, rfl⟩
abbrev main_call5_v0 : Ref sig .tc := ⟨.hbm, 98, rfl⟩
abbrev main_call5_v1_0 : Ref sig .tc := ⟨.hbm, 99, rfl⟩
abbrev main_v24 : Ref sig .tc := ⟨.hbm, 100, rfl⟩
abbrev main_c_2 : Ref sig .tc := ⟨.hbm, 101, rfl⟩
abbrev main_call6_v0 : Ref sig .tc := ⟨.hbm, 102, rfl⟩
abbrev main_call6_c : Ref sig .tc := ⟨.hbm, 103, rfl⟩
abbrev main_call6_v1 : Ref sig .tc := ⟨.hbm, 104, rfl⟩
abbrev main_call6_c_0 : Ref sig .tc := ⟨.hbm, 105, rfl⟩
abbrev main_call6_v2 : Ref sig .tc := ⟨.hbm, 106, rfl⟩
abbrev main_call6_v3 : Ref sig .tc := ⟨.hbm, 107, rfl⟩
abbrev main_call6_v4 : Ref sig .tc := ⟨.hbm, 108, rfl⟩
abbrev main_call6_c_1 : Ref sig .tc := ⟨.hbm, 109, rfl⟩
abbrev main_call6_v5 : Ref sig .tc := ⟨.hbm, 110, rfl⟩
abbrev main_call6_v6 : Ref sig .tc := ⟨.hbm, 111, rfl⟩
abbrev main_call6_c_2 : Ref sig .tc := ⟨.hbm, 112, rfl⟩
abbrev main_call6_v7 : Ref sig .tc := ⟨.hbm, 113, rfl⟩
abbrev main_call6_v8 : Ref sig .tc := ⟨.hbm, 114, rfl⟩
abbrev main_call6_c_3 : Ref sig .tc := ⟨.hbm, 115, rfl⟩
abbrev main_call6_v9 : Ref sig .tc := ⟨.hbm, 116, rfl⟩
abbrev main_call6_v10 : Ref sig .tc := ⟨.hbm, 117, rfl⟩
abbrev main_call6_v11 : Ref sig .tc := ⟨.hbm, 118, rfl⟩
abbrev main_call6_v12 : Ref sig .tc := ⟨.hbm, 119, rfl⟩
abbrev main_call6_v13 : Ref sig .tc := ⟨.hbm, 120, rfl⟩
abbrev main_call6_v14 : Ref sig .tc := ⟨.hbm, 121, rfl⟩
abbrev main_v25 : Ref sig .tc := ⟨.hbm, 122, rfl⟩
abbrev main_v26 : Ref sig .tc := ⟨.hbm, 123, rfl⟩
abbrev main_call7_c : Ref sig .tc := ⟨.hbm, 124, rfl⟩
abbrev main_call7_v0 : Ref sig .tc := ⟨.hbm, 125, rfl⟩
abbrev main_call7_v1 : Ref sig .tc := ⟨.hbm, 126, rfl⟩
abbrev main_call7_c_0 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_call7_c_1 : Ref sig .tc := ⟨.hbm, 131, rfl⟩
abbrev main_call7_c_2 : Ref sig .tc := ⟨.hbm, 132, rfl⟩
abbrev main_call7_v5 : Ref sig .tc := ⟨.hbm, 133, rfl⟩
abbrev main_call7_v6 : Ref sig .tc := ⟨.hbm, 134, rfl⟩
abbrev main_call7_v7 : Ref sig .tc := ⟨.hbm, 135, rfl⟩
abbrev main_call7_v8 : Ref sig .tc := ⟨.hbm, 136, rfl⟩
abbrev main_call7_v9 : Ref sig .tc := ⟨.hbm, 137, rfl⟩
abbrev main_call7_v10 : Ref sig .tc := ⟨.hbm, 138, rfl⟩
abbrev main_call7_c_3 : Ref sig .tc := ⟨.hbm, 139, rfl⟩
abbrev main_call7_v11 : Ref sig .tc := ⟨.hbm, 140, rfl⟩
abbrev main_call7_v12 : Ref sig .tc := ⟨.hbm, 141, rfl⟩
abbrev main_call7_v13 : Ref sig .tc := ⟨.hbm, 142, rfl⟩
abbrev main_call7_cst : Ref sig .tc := ⟨.hbm, 143, rfl⟩
abbrev main_call7_v14 : Ref sig .tc := ⟨.hbm, 144, rfl⟩
abbrev main_v27 : Ref sig .tc := ⟨.hbm, 145, rfl⟩
abbrev main_v28 : Ref sig .tc := ⟨.hbm, 146, rfl⟩
abbrev main_call8_c : Ref sig .tc := ⟨.hbm, 147, rfl⟩
abbrev main_call8_v0 : Ref sig .tc := ⟨.hbm, 148, rfl⟩
abbrev main_call8_v1 : Ref sig .tc := ⟨.hbm, 149, rfl⟩
abbrev main_call8_c_0 : Ref sig .tc := ⟨.hbm, 150, rfl⟩
abbrev main_call8_v2 : Ref sig .tc := ⟨.hbm, 151, rfl⟩
abbrev main_call8_v3 : Ref sig .tc := ⟨.hbm, 152, rfl⟩
abbrev main_call8_v4 : Ref sig .tc := ⟨.hbm, 153, rfl⟩
abbrev main_call8_c_1 : Ref sig .tc := ⟨.hbm, 154, rfl⟩
abbrev main_call8_c_2 : Ref sig .tc := ⟨.hbm, 155, rfl⟩
abbrev main_call8_v5 : Ref sig .tc := ⟨.hbm, 156, rfl⟩
abbrev main_call8_v6 : Ref sig .tc := ⟨.hbm, 157, rfl⟩
abbrev main_call8_v7 : Ref sig .tc := ⟨.hbm, 158, rfl⟩
abbrev main_call8_v8 : Ref sig .tc := ⟨.hbm, 159, rfl⟩
abbrev main_call8_v9 : Ref sig .tc := ⟨.hbm, 160, rfl⟩
abbrev main_call8_v10 : Ref sig .tc := ⟨.hbm, 161, rfl⟩
abbrev main_call8_c_3 : Ref sig .tc := ⟨.hbm, 162, rfl⟩
abbrev main_call8_v11 : Ref sig .tc := ⟨.hbm, 163, rfl⟩
abbrev main_call8_v12 : Ref sig .tc := ⟨.hbm, 164, rfl⟩
abbrev main_call8_v13 : Ref sig .tc := ⟨.hbm, 165, rfl⟩
abbrev main_call8_cst : Ref sig .tc := ⟨.hbm, 166, rfl⟩
abbrev main_call8_v14 : Ref sig .tc := ⟨.hbm, 167, rfl⟩
abbrev main_v29 : Ref sig .tc := ⟨.hbm, 168, rfl⟩
abbrev main_v30 : Ref sig .tc := ⟨.hbm, 169, rfl⟩
abbrev main_v31 : Ref sig .tc := ⟨.hbm, 170, rfl⟩
abbrev main_v32 : Ref sig .tc := ⟨.hbm, 171, rfl⟩
abbrev main_call9_v0 : Ref sig .tc := ⟨.hbm, 172, rfl⟩
abbrev main_call9_cst : Ref sig .tc := ⟨.hbm, 173, rfl⟩
abbrev main_call9_v1 : Ref sig .tc := ⟨.hbm, 174, rfl⟩
abbrev main_call9_v2 : Ref sig .tc := ⟨.hbm, 175, rfl⟩
abbrev main_v33 : Ref sig .tc := ⟨.hbm, 176, rfl⟩
abbrev main_cst : Ref sig .tc := ⟨.hbm, 177, rfl⟩
abbrev main_v34 : Ref sig .tc := ⟨.hbm, 178, rfl⟩
abbrev main_v35 : Ref sig .tc := ⟨.hbm, 179, rfl⟩
abbrev main_v36 : Ref sig .tc := ⟨.hbm, 180, rfl⟩
abbrev main_v37 : Ref sig .tc := ⟨.hbm, 181, rfl⟩
abbrev main_v38 : Ref sig .tc := ⟨.hbm, 182, rfl⟩
abbrev main_v39 : Ref sig .tc := ⟨.hbm, 183, rfl⟩
abbrev main_v40 : Ref sig .tc := ⟨.hbm, 184, rfl⟩
abbrev main_v41 : Ref sig .tc := ⟨.hbm, 185, rfl⟩
abbrev main_v42 : Ref sig .tc := ⟨.hbm, 186, rfl⟩
abbrev main_v43 : Ref sig .tc := ⟨.hbm, 187, rfl⟩
abbrev main_v44 : Ref sig .tc := ⟨.hbm, 188, rfl⟩
abbrev main_v45 : Ref sig .tc := ⟨.hbm, 189, rfl⟩
abbrev main_v46 : Ref sig .tc := ⟨.hbm, 190, rfl⟩
abbrev main_v47 : Ref sig .tc := ⟨.hbm, 191, rfl⟩
abbrev main_v48 : Ref sig .tc := ⟨.hbm, 192, rfl⟩
abbrev main_v49 : Ref sig .tc := ⟨.hbm, 193, rfl⟩
abbrev main_v50 : Ref sig .tc := ⟨.hbm, 194, rfl⟩
abbrev main_cst_3 : Ref sig .tc := ⟨.hbm, 195, rfl⟩
abbrev main_v51 : Ref sig .tc := ⟨.hbm, 196, rfl⟩
abbrev main_v52 : Ref sig .tc := ⟨.hbm, 197, rfl⟩
abbrev main_v53 : Ref sig .tc := ⟨.hbm, 198, rfl⟩
abbrev main_v54 : Ref sig .tc := ⟨.hbm, 199, rfl⟩
abbrev main_v55 : Ref sig .tc := ⟨.hbm, 200, rfl⟩
abbrev main_v56 : Ref sig .tc := ⟨.hbm, 201, rfl⟩
abbrev main_v57 : Ref sig .tc := ⟨.hbm, 202, rfl⟩
abbrev main_v58 : Ref sig .tc := ⟨.hbm, 203, rfl⟩
abbrev main_cst_4 : Ref sig .tc := ⟨.hbm, 204, rfl⟩
abbrev main_v59 : Ref sig .tc := ⟨.hbm, 205, rfl⟩
abbrev main_v60 : Ref sig .tc := ⟨.hbm, 206, rfl⟩
abbrev main_v61 : Ref sig .tc := ⟨.hbm, 207, rfl⟩
abbrev main_cst_5 : Ref sig .tc := ⟨.hbm, 208, rfl⟩
abbrev main_v62 : Ref sig .tc := ⟨.hbm, 209, rfl⟩
abbrev main_v63 : Ref sig .tc := ⟨.hbm, 210, rfl⟩
abbrev main_v64 : Ref sig .tc := ⟨.hbm, 211, rfl⟩
abbrev main_v65 : Ref sig .tc := ⟨.hbm, 212, rfl⟩
abbrev main_v66 : Ref sig .tc := ⟨.hbm, 213, rfl⟩
abbrev main_v67 : Ref sig .tc := ⟨.hbm, 214, rfl⟩
abbrev main_cst_6 : Ref sig .tc := ⟨.hbm, 215, rfl⟩
abbrev main_v68 : Ref sig .tc := ⟨.hbm, 216, rfl⟩
abbrev main_v69 : Ref sig .tc := ⟨.hbm, 217, rfl⟩
abbrev main_v70 : Ref sig .tc := ⟨.hbm, 218, rfl⟩
abbrev main_cst_7 : Ref sig .tc := ⟨.hbm, 219, rfl⟩
abbrev main_v71 : Ref sig .tc := ⟨.hbm, 220, rfl⟩
abbrev main_v72 : Ref sig .tc := ⟨.hbm, 221, rfl⟩
abbrev main_cst_8 : Ref sig .tc := ⟨.hbm, 222, rfl⟩
abbrev main_call10_v0 : Ref sig .tc := ⟨.hbm, 223, rfl⟩
abbrev main_call10_v1 : Ref sig .tc := ⟨.hbm, 224, rfl⟩
abbrev main_v73 : Ref sig .tc := ⟨.hbm, 225, rfl⟩
abbrev main_v74 : Ref sig .tc := ⟨.hbm, 226, rfl⟩
abbrev main_v75 : Ref sig .tc := ⟨.hbm, 227, rfl⟩
abbrev main_v76 : Ref sig .tc := ⟨.hbm, 228, rfl⟩
abbrev main_cst_9 : Ref sig .tc := ⟨.hbm, 229, rfl⟩
abbrev main_v77 : Ref sig .tc := ⟨.hbm, 230, rfl⟩
abbrev main_v78 : Ref sig .tc := ⟨.hbm, 231, rfl⟩
abbrev main_v79 : Ref sig .tc := ⟨.hbm, 232, rfl⟩
abbrev main_v80 : Ref sig .tc := ⟨.hbm, 233, rfl⟩
abbrev main_v81 : Ref sig .tc := ⟨.hbm, 234, rfl⟩
abbrev main_v82 : Ref sig .tc := ⟨.hbm, 235, rfl⟩
abbrev main_v83 : Ref sig .tc := ⟨.hbm, 236, rfl⟩
abbrev main_v84 : Ref sig .tc := ⟨.hbm, 237, rfl⟩
abbrev main_v85 : Ref sig .tc := ⟨.hbm, 238, rfl⟩
abbrev main_v86 : Ref sig .tc := ⟨.hbm, 239, rfl⟩
abbrev main_v87 : Ref sig .tc := ⟨.hbm, 240, rfl⟩
abbrev main_call11_c : Ref sig .tc := ⟨.hbm, 241, rfl⟩
abbrev main_call11_v0 : Ref sig .tc := ⟨.hbm, 242, rfl⟩
abbrev main_call11_v1 : Ref sig .tc := ⟨.hbm, 243, rfl⟩
abbrev main_call11_c_0 : Ref sig .tc := ⟨.hbm, 244, rfl⟩
abbrev main_call11_v2 : Ref sig .tc := ⟨.hbm, 245, rfl⟩
abbrev main_call11_v3 : Ref sig .tc := ⟨.hbm, 246, rfl⟩
abbrev main_call11_v4 : Ref sig .tc := ⟨.hbm, 247, rfl⟩
abbrev main_call11_c_1 : Ref sig .tc := ⟨.hbm, 248, rfl⟩
abbrev main_call11_c_2 : Ref sig .tc := ⟨.hbm, 249, rfl⟩
abbrev main_call11_v5 : Ref sig .tc := ⟨.hbm, 250, rfl⟩
abbrev main_call11_v6 : Ref sig .tc := ⟨.hbm, 251, rfl⟩
abbrev main_call11_v7 : Ref sig .tc := ⟨.hbm, 252, rfl⟩
abbrev main_call11_v8 : Ref sig .tc := ⟨.hbm, 253, rfl⟩
abbrev main_call11_v9 : Ref sig .tc := ⟨.hbm, 254, rfl⟩
abbrev main_call11_v10 : Ref sig .tc := ⟨.hbm, 255, rfl⟩
abbrev main_call11_c_3 : Ref sig .tc := ⟨.hbm, 256, rfl⟩
abbrev main_call11_v11 : Ref sig .tc := ⟨.hbm, 257, rfl⟩
abbrev main_call11_v12 : Ref sig .tc := ⟨.hbm, 258, rfl⟩
abbrev main_call11_v13 : Ref sig .tc := ⟨.hbm, 259, rfl⟩
abbrev main_call11_cst : Ref sig .tc := ⟨.hbm, 260, rfl⟩
abbrev main_call11_v14 : Ref sig .tc := ⟨.hbm, 261, rfl⟩
abbrev main_v88 : Ref sig .tc := ⟨.hbm, 262, rfl⟩
abbrev main_call12_c : Ref sig .tc := ⟨.hbm, 263, rfl⟩
abbrev main_call12_v0 : Ref sig .tc := ⟨.hbm, 264, rfl⟩
abbrev main_call12_v1 : Ref sig .tc := ⟨.hbm, 265, rfl⟩
abbrev main_call12_c_0 : Ref sig .tc := ⟨.hbm, 266, rfl⟩
abbrev main_call12_v2 : Ref sig .tc := ⟨.hbm, 267, rfl⟩
abbrev main_call12_v3 : Ref sig .tc := ⟨.hbm, 268, rfl⟩
abbrev main_call12_v4 : Ref sig .tc := ⟨.hbm, 269, rfl⟩
abbrev main_call12_v5 : Ref sig .tc := ⟨.hbm, 270, rfl⟩
abbrev main_call12_c_1 : Ref sig .tc := ⟨.hbm, 271, rfl⟩
abbrev main_call12_c_2 : Ref sig .tc := ⟨.hbm, 272, rfl⟩
abbrev main_call12_v6 : Ref sig .tc := ⟨.hbm, 273, rfl⟩
abbrev main_call12_v7 : Ref sig .tc := ⟨.hbm, 274, rfl⟩
abbrev main_call12_v8 : Ref sig .tc := ⟨.hbm, 275, rfl⟩
abbrev main_call12_v9 : Ref sig .tc := ⟨.hbm, 276, rfl⟩
abbrev main_call12_v10 : Ref sig .tc := ⟨.hbm, 277, rfl⟩
abbrev main_call12_v11 : Ref sig .tc := ⟨.hbm, 278, rfl⟩
abbrev main_call12_c_3 : Ref sig .tc := ⟨.hbm, 279, rfl⟩
abbrev main_call12_v12 : Ref sig .tc := ⟨.hbm, 280, rfl⟩
abbrev main_call12_v13 : Ref sig .tc := ⟨.hbm, 281, rfl⟩
abbrev main_call12_cst : Ref sig .tc := ⟨.hbm, 282, rfl⟩
abbrev main_call12_v14 : Ref sig .tc := ⟨.hbm, 283, rfl⟩
abbrev main_v89 : Ref sig .tc := ⟨.hbm, 284, rfl⟩
abbrev main_v90 : Ref sig .tc := ⟨.hbm, 285, rfl⟩
abbrev main_v91 : Ref sig .tc := ⟨.hbm, 286, rfl⟩
abbrev main_cst_10 : Ref sig .tc := ⟨.hbm, 287, rfl⟩
abbrev main_v92 : Ref sig .tc := ⟨.hbm, 288, rfl⟩
abbrev main_v93 : Ref sig .tc := ⟨.hbm, 289, rfl⟩
abbrev main_v94 : Ref sig .tc := ⟨.hbm, 290, rfl⟩
abbrev main_cst_11 : Ref sig .tc := ⟨.hbm, 291, rfl⟩
abbrev main_v95 : Ref sig .tc := ⟨.hbm, 292, rfl⟩
abbrev main_v96 : Ref sig .tc := ⟨.hbm, 293, rfl⟩
abbrev main_cst_12 : Ref sig .tc := ⟨.hbm, 294, rfl⟩
abbrev main_call13_v0 : Ref sig .tc := ⟨.hbm, 295, rfl⟩
abbrev main_call13_v1 : Ref sig .tc := ⟨.hbm, 296, rfl⟩
abbrev main_v97 : Ref sig .tc := ⟨.hbm, 297, rfl⟩
abbrev main_v98 : Ref sig .tc := ⟨.hbm, 298, rfl⟩
abbrev main_v99 : Ref sig .tc := ⟨.hbm, 299, rfl⟩
abbrev main_v100 : Ref sig .tc := ⟨.hbm, 300, rfl⟩
abbrev main_cst_13 : Ref sig .tc := ⟨.hbm, 301, rfl⟩
abbrev main_v101 : Ref sig .tc := ⟨.hbm, 302, rfl⟩
abbrev main_v102 : Ref sig .tc := ⟨.hbm, 303, rfl⟩
abbrev main_v103 : Ref sig .tc := ⟨.hbm, 304, rfl⟩
abbrev main_v104 : Ref sig .tc := ⟨.hbm, 305, rfl⟩
abbrev main_v105 : Ref sig .tc := ⟨.hbm, 306, rfl⟩
abbrev main_v106 : Ref sig .tc := ⟨.hbm, 307, rfl⟩
abbrev main_v107 : Ref sig .tc := ⟨.hbm, 308, rfl⟩
abbrev main_v108 : Ref sig .tc := ⟨.hbm, 309, rfl⟩
abbrev main_v109 : Ref sig .tc := ⟨.hbm, 310, rfl⟩
abbrev main_cst_14 : Ref sig .tc := ⟨.hbm, 311, rfl⟩
abbrev main_v110 : Ref sig .tc := ⟨.hbm, 312, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.First.lean ====
/- The first greatest entry of a finite family of extended reals: it exists, it is unique, and the folds and searches by
   which a program finds its position return it. -/
module

public import Idealize.ShloMosaic.Lib.Pointwise
public import Idealize.ShloMosaic.Lib.WordCmp

@[expose] public section

noncomputable section

namespace Cert.First

open Idealize.ShloMosaic

/-- `i` is the position of the first greatest entry of `g`. -/
def IsFirst {n : ℕ} (g : Fin n → EReal) (i : Fin n) : Prop :=
  (∀ j, g j ≤ g i) ∧ ∀ j, j < i → g j < g i

/-- Every nonempty family has a first greatest entry. -/
theorem exists_isFirst {n : ℕ} (g : Fin (n + 1) → EReal) : ∃ i, IsFirst g i := by
  classical
  obtain ⟨x, hx⟩ := Finite.exists_max g
  let S := Finset.univ.filter fun i => ∀ j, g j ≤ g i
  have hS : S.Nonempty := ⟨x, by simpa [S] using hx⟩
  have hi : ∀ j, g j ≤ g (S.min' hS) := by simpa [S] using S.min'_mem hS
  refine ⟨S.min' hS, hi, fun j hj => lt_of_le_of_ne (hi j) fun e => ?_⟩
  have hm : j ∈ S := by simpa [S, e] using hi
  exact absurd (S.min'_le j hm) (not_le.2 hj)

/-- The fold by `max` from below everything is the greatest entry. -/
theorem fold_max {n : ℕ} {f : Fin n → EReal} {i : Fin n} (hi : IsFirst f i) :
    Finset.fold max ⊥ f Finset.univ = f i :=
  le_antisymm ((Finset.fold_max_le _).2 ⟨bot_le, fun j _ => hi.1 j⟩)
    ((Finset.le_fold_max _).2 (.inr ⟨i, Finset.mem_univ _, le_rfl⟩))

/-- The fold by `min` from above everything is the entry whose negative is greatest. -/
theorem fold_min {n : ℕ} {f : Fin n → EReal} {k : Fin n} (hk : IsFirst (fun a => -f a) k) :
    Finset.fold min ⊤ f Finset.univ = f k :=
  le_antisymm ((Finset.fold_min_le _).2 (.inr ⟨k, Finset.mem_univ _, le_rfl⟩))
    ((Finset.le_fold_min _).2 ⟨le_top, fun j _ => EReal.neg_le_neg_iff.1 (hk.1 j)⟩)

/-- The lesser of two signed words, read as an integer. -/
theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.1 h]

/-- The least position that passes a test, the others replaced by a number past the end. -/
theorem fold_minsi (P : Fin 16 → Prop) [DecidablePred P] {i : Fin 16} (hi : P i) (h : ∀ j, j < i → ¬ P j) :
    Finset.fold IntOp.minsi (2147483647#32) (fun a : Fin 16 => if P a then BitVec.ofNat 32 a.val else 16#32) Finset.univ
      = BitVec.ofNat 32 i.val := by
  refine BitVec.eq_of_toInt_eq ?_
  rw [← Finset.fold_hom (op := IntOp.minsi) (op' := min) (m := BitVec.toInt) toInt_minsi]
  have hn : ∀ a : Fin 16, (BitVec.ofNat 32 a.val).toInt = (a.val : ℤ) := fun a =>
    WordCmp.toInt_ofNat_of_lt (by have := a.isLt; omega)
  have h16 : (16#32 : BitVec 32).toInt = 16 := rfl
  have hL : (2147483647#32 : BitVec 32).toInt = 2147483647 := rfl
  have hi16 := i.isLt
  refine le_antisymm ((Finset.fold_min_le _).2 (.inr ⟨i, Finset.mem_univ _, by rw [if_pos hi]⟩))
    ((Finset.le_fold_min _).2 ⟨by rw [hn, hL]; omega, fun a _ => ?_⟩)
  by_cases ha : P a
  · have : ¬ a < i := fun hl => h a hl ha
    rw [if_pos ha, hn, hn]
    exact_mod_cast not_lt.1 this
  · rw [if_neg ha, hn, h16]
    omega

/-- A family of sixteen entries followed by their negatives: its first greatest entry is that of the entries if their
    greatest is no less than the greatest negative, otherwise that of the negatives. -/
theorem isFirst_signed {f : Fin 16 → EReal} {g : Fin 32 → EReal}
    (hg : ∀ j : Fin 32, g j = if h : j.val < 16 then f ⟨j.val, h⟩ else -f ⟨j.val - 16, by have := j.isLt; omega⟩)
    {i k : Fin 16} (hi : IsFirst f i) (hk : IsFirst (fun a => -f a) k) :
    IsFirst g ⟨if -f k ≤ f i then i.val else 16 + k.val, by have := i.isLt; have := k.isLt; split <;> omega⟩ := by
  have hlo : ∀ a : Fin 16, g ⟨a.val, by have := a.isLt; omega⟩ = f a := fun a => by
    rw [hg, dif_pos a.isLt]
  have hhi : ∀ a : Fin 16, g ⟨16 + a.val, by have := a.isLt; omega⟩ = -f a := fun a => by
    rw [hg, dif_neg (by simp)]
    exact congrArg (fun b => -f b) (Fin.ext (by simp))
  by_cases hc : -f k ≤ f i
  · simp only [if_pos hc]
    refine ⟨fun j => ?_, fun j hj => ?_⟩
    · rw [hlo, hg]
      split
      · exact hi.1 _
      · exact (hk.1 _).trans hc
    · have hj' : j.val < i.val := hj
      have := i.isLt
      rw [hlo, hg, dif_pos (by omega)]
      exact hi.2 _ hj'
  · simp only [if_neg hc]
    have hc' := not_le.1 hc
    refine ⟨fun j => ?_, fun j hj => ?_⟩
    · rw [hhi, hg]
      split
      · exact (hi.1 _).trans hc'.le
      · exact hk.1 _
    · have hj' : j.val < 16 + k.val := hj
      rw [hhi, hg]
      split
      · exact (hi.1 _).trans_lt hc'
      · exact hk.2 _ (Fin.lt_def.2 (by simp only; omega))

/-- `p` is no better than `q`: less, or equal and not before it. -/
def NoBetter (p q : EReal × BitVec 32) : Prop := p.1 < q.1 ∨ (p.1 = q.1 ∧ q.2.toInt ≤ p.2.toInt)

/-- No pair is better than itself. -/
theorem NoBetter.refl (p : EReal × BitVec 32) : NoBetter p p := .inr ⟨rfl, le_rfl⟩

/-- Being no better is transitive. -/
theorem NoBetter.trans {p q r : EReal × BitVec 32} (h : NoBetter p q) (h' : NoBetter q r) : NoBetter p r := by
  rcases h with h | ⟨h, e⟩ <;> rcases h' with h' | ⟨h', e'⟩
  · exact .inl (h.trans h')
  · exact .inl (h'.symm ▸ h)
  · exact .inl (h.symm ▸ h')
  · exact .inr ⟨h.trans h', e'.trans e⟩

/-- A fold that keeps one of two pairs, neither better than the one it keeps, ends with one of its pairs, none of them
    better than that one. -/
theorem foldl_best (f : EReal × BitVec 32 → EReal × BitVec 32 → EReal × BitVec 32)
    (hf : ∀ a b, (f a b = a ∨ f a b = b) ∧ NoBetter a (f a b) ∧ NoBetter b (f a b)) (L : List (EReal × BitVec 32)) :
    ∀ a, L.foldl f a ∈ a :: L ∧ ∀ p ∈ a :: L, NoBetter p (L.foldl f a) := by
  induction L with
  | nil => exact fun a => ⟨by simp, fun p hp => by rw [List.mem_singleton.1 hp]; exact NoBetter.refl a⟩
  | cons b L ih =>
    intro a
    obtain ⟨hm, hb⟩ := ih (f a b)
    obtain ⟨he, h1, h2⟩ := hf a b
    have h0 := hb _ List.mem_cons_self
    refine ⟨?_, fun p hp => ?_⟩
    · rcases List.mem_cons.1 hm with h | h
      · rw [List.foldl_cons, h]
        rcases he with e | e <;> rw [e] <;> simp
      · exact List.mem_cons_of_mem _ (List.mem_cons_of_mem _ h)
    · rcases List.mem_cons.1 hp with rfl | hp
      · exact h1.trans h0
      · rcases List.mem_cons.1 hp with rfl | hp
        · exact h2.trans h0
        · exact hb p (List.mem_cons_of_mem _ hp)

/-- The best of the pairs of a family's entries with their positions, and of the least value at position zero, is the
    family's first greatest entry. -/
theorem best_eq {g : Fin 32 → EReal} {i : Fin 32} (hi : IsFirst g i) {L : List (EReal × BitVec 32)}
    (hL : ∀ p, p ∈ L ↔ ∃ a : Fin 32, p = (g a, BitVec.ofNat 32 a.val)) {r : EReal × BitVec 32}
    (hr : r ∈ (⊥, 0#32) :: L) (hb : ∀ p ∈ (⊥, 0#32) :: L, NoBetter p r) : r.2 = BitVec.ofNat 32 i.val := by
  have hn : ∀ a : Fin 32, (BitVec.ofNat 32 a.val).toInt = (a.val : ℤ) := fun a =>
    WordCmp.toInt_ofNat_of_lt (by have := a.isLt; omega)
  have h := hb _ (List.mem_cons_of_mem _ ((hL _).2 ⟨i, rfl⟩))
  rcases List.mem_cons.1 hr with rfl | hr
  · rcases h with h | ⟨h, -⟩
    · exact absurd h not_lt_bot
    · have h0 : ¬ (0 : Fin 32) < i := fun hl => not_lt_bot (lt_of_lt_of_eq (hi.2 0 hl) h)
      have : i = 0 := le_antisymm (not_lt.1 h0) (Fin.zero_le _)
      rw [this]
      rfl
  · obtain ⟨a, rfl⟩ := (hL _).1 hr
    rcases h with h | ⟨h, e⟩
    · exact absurd h (not_lt.2 (hi.1 a))
    · rw [hn, hn] at e
      have hle : a ≤ i := by exact_mod_cast e
      rcases hle.lt_or_eq with hl | hl
      · exact absurd h (hi.2 a hl).ne'
      · rw [hl]

end Cert.First
-- ==== Proof.Rows.lean ====
/- The kernel's buckets: each hash's row holds, for every vector, the position of the first greatest entry among its
   sixteen rotated coordinates and their negatives, moved past the buckets of the hashes before it. -/
module

public import proofs.«01_k».proof.Proof.Gen.KernelIdeal.Frame
public import proofs.«01_k».proof.Proof.First
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.First

/-- The greatest entry of each column. -/
def colMax (x : FVec Ideal S16x2048 .f32) : FVec Ideal S1x2048 .f32 :=
  shapeCast S1x2048 (multiReduction .maximumf [0] S2048 x 0xFF800000#32 reduces_S16x2048_S2048 (.inl rfl) rfl)
    shapeCasts_S2048_S1x2048

/-- The least entry of each column. -/
def colMin (x : FVec Ideal S16x2048 .f32) : FVec Ideal S1x2048 .f32 :=
  shapeCast S1x2048 (multiReduction .minimumf [0] S2048 x 0x7F800000#32 reduces_S16x2048_S2048 (.inl rfl) rfl)
    shapeCasts_S2048_S1x2048

/-- The least number in each column. -/
def colFirst (x : IVec S16x2048 32) : IVec S1x2048 32 :=
  shapeCast S1x2048 (multiReductionI .minsi [0] S2048 x 2147483647#32 reduces_S16x2048_S2048 rfl) shapeCasts_S2048_S1x2048

/-- The positions of the entries no less than their column's `y`, the others' replaced by sixteen. -/
def notBelow (x : FVec Ideal S16x2048 .f32) (y : FVec Ideal S1x2048 .f32) : IVec S16x2048 32 :=
  select (cmpf .oge x (broadcastTo S16x2048 y broadcasts_S1x2048_S16x2048)) (iota .tc S16x2048 32 [0] iota_S16x2048_d0_w32)
    (broadcast S16x2048 16#32)

/-- The positions of the entries no greater than their column's `y`, the others' replaced by sixteen. -/
def notAbove (x : FVec Ideal S16x2048 .f32) (y : FVec Ideal S1x2048 .f32) : IVec S16x2048 32 :=
  select (cmpf .ole x (broadcastTo S16x2048 y broadcasts_S1x2048_S16x2048)) (iota .tc S16x2048 32 [0] iota_S16x2048_d0_w32)
    (broadcast S16x2048 16#32)

/-- `p` where `y` is no less than the negative of `z`, otherwise `q` moved past sixteen. -/
def choose (y z : FVec Ideal S1x2048 .f32) (p q : IVec S1x2048 32) : IVec S1x2048 32 :=
  select (cmpf .oge y (subf (broadcast S1x2048 (Scalar.ofBits .f32 0x00000000#32)) z)) p (addi (broadcast S1x2048 16#32) q)

/-- One hash's row of buckets. -/
def bucketRow (x : FVec Ideal S16x2048 .f32) (o : BitVec 32) : IVec S1x2048 32 :=
  addi (choose (colMax x) (colMin x) (colFirst (notBelow x (colMax x))) (colFirst (notAbove x (colMin x))))
    (broadcast S1x2048 o)

/-- What the kernel stores. -/
def stored (P : FVec Ideal S128x2048 .f32) : IVec S1x8x2048 32 :=
  shapeCast S1x8x2048 (concatenate S8x2048 0
    [⟨S1x2048, bucketRow (extractStridedSlice S16x2048 ![0, 0] P slices_S128x2048_o0_0_S16x2048) 0#32⟩,
     ⟨S1x2048, bucketRow (extractStridedSlice S16x2048 ![16, 0] P slices_S128x2048_o16_0_S16x2048) 32#32⟩,
     ⟨S1x2048, bucketRow (extractStridedSlice S16x2048 ![32, 0] P slices_S128x2048_o32_0_S16x2048) 64#32⟩,
     ⟨S1x2048, bucketRow (extractStridedSlice S16x2048 ![48, 0] P slices_S128x2048_o48_0_S16x2048) 96#32⟩,
     ⟨S1x2048, bucketRow (extractStridedSlice S16x2048 ![64, 0] P slices_S128x2048_o64_0_S16x2048) 128#32⟩,
     ⟨S1x2048, bucketRow (extractStridedSlice S16x2048 ![80, 0] P slices_S128x2048_o80_0_S16x2048) 160#32⟩,
     ⟨S1x2048, bucketRow (extractStridedSlice S16x2048 ![96, 0] P slices_S128x2048_o96_0_S16x2048) 192#32⟩,
     ⟨S1x2048, bucketRow (extractStridedSlice S16x2048 ![112, 0] P slices_S128x2048_o112_0_S16x2048) 224#32⟩]
    concatenates_S1x2048_S1x2048_S1x2048_S1x2048_S1x2048_S1x2048_S1x2048_S1x2048_S8x2048_d0)
    shapeCasts_S8x2048_S1x8x2048

/-- The kernel's own words for it, over a vector block `x` and the rotations `r`. -/
theorem stored_eq (x : Vec Ideal S1x2048x64 .f32) (r : Vec Ideal S64x128 .f32) :
    k0_pay21 (k0_pay2 x r) (iota .tc S16x2048 32 [0] iota_S16x2048_d0_w32) (k0_pay3 x r)
      (k0_pay7 (iota .tc S16x2048 32 [0] iota_S16x2048_d0_w32) (k0_pay4 x r) (k0_pay5 x r) (k0_pay6 x r))
      (k0_pay8 (k0_pay2 x r) (iota .tc S16x2048 32 [0] iota_S16x2048_d0_w32))
      (k0_pay12 (iota .tc S16x2048 32 [0] iota_S16x2048_d0_w32) (k0_pay9 (k0_pay2 x r)) (k0_pay10 (k0_pay2 x r))
        (k0_pay11 (k0_pay2 x r)))
      (k0_pay14 (k0_pay13 (k0_pay2 x r) (iota .tc S16x2048 32 [0] iota_S16x2048_d0_w32)))
      (k0_pay15 (k0_pay2 x r) (iota .tc S16x2048 32 [0] iota_S16x2048_d0_w32)) (k0_pay17 (k0_pay2 x r))
      (k0_pay18 (k0_pay2 x r) (iota .tc S16x2048 32 [0] iota_S16x2048_d0_w32)) (k0_pay19 (k0_pay2 x r))
      (k0_pay20 (k0_pay2 x r) (iota .tc S16x2048 32 [0] iota_S16x2048_d0_w32))
    = stored (k0_pay2 x r) := by
  unfold k0_pay3 k0_pay4 k0_pay5 k0_pay6 k0_pay4 k0_pay5
  rfl

/-- The word for the least value is below everything. -/
theorem lowest : Ideal.ofBits .f32 4286578688#32 = (⊥ : EReal) := by simp [Ideal.ofBits, Ideal.ieee]

/-- The word for the greatest value is above everything. -/
theorem highest : Ideal.ofBits .f32 2139095040#32 = (⊤ : EReal) := by simp [Ideal.ofBits, Ideal.ieee]

variable (x : FVec Ideal S16x2048 .f32) (l : Fin 2048)

/-- The greatest entry of a column is its first greatest entry. -/
theorem colMax_apply {i : Fin 16} (hi : IsFirst (fun a => x (ix2 a l)) i) : colMax x (ix2 0 l) = x (ix2 i l) := by
  refine Eq.trans ?_ (fold_max hi)
  pointwise [colMax]
  rw [lowest]

/-- The least entry of a column is the one with the first greatest negative. -/
theorem colMin_apply {k : Fin 16} (hk : IsFirst (fun a => -(x (ix2 a l) : EReal)) k) :
    colMin x (ix2 0 l) = x (ix2 k l) := by
  refine Eq.trans ?_ (fold_min (f := fun a => x (ix2 a l)) hk)
  pointwise [colMin]
  rw [highest]

/-- The least number of a column is the fold of its numbers. -/
theorem colFirst_apply (p : IVec S16x2048 32) :
    colFirst p (ix2 0 l) = Finset.fold IntOp.minsi (2147483647#32) (fun a : Fin 16 => p (ix2 a l)) Finset.univ := by
  pointwise [colFirst]

/-- An entry's position if it is no less than `y`. -/
theorem notBelow_apply (y : FVec Ideal S1x2048 .f32) (a : Fin 16) :
    notBelow x y (ix2 a l) = if (y (ix2 0 l) : EReal) ≤ x (ix2 a l) then BitVec.ofNat 32 a.val else 16#32 := by
  pointwise [notBelow]

/-- An entry's position if it is no greater than `y`. -/
theorem notAbove_apply (y : FVec Ideal S1x2048 .f32) (a : Fin 16) :
    notAbove x y (ix2 a l) = if (x (ix2 a l) : EReal) ≤ y (ix2 0 l) then BitVec.ofNat 32 a.val else 16#32 := by
  pointwise [notAbove]

/-- The choice at one column. -/
theorem choose_apply (y z : FVec Ideal S1x2048 .f32) (p q : IVec S1x2048 32) : choose y z p q (ix2 0 l)
      = if -(z (ix2 0 l) : EReal) ≤ y (ix2 0 l) then p (ix2 0 l) else 16#32 + q (ix2 0 l) := by
  pointwise [choose]
  have e : (0 : EReal) - z (ix2 0 l) = -(z (ix2 0 l) : EReal) := zero_sub _
  rw [e]
  rfl

/-- The position of the first greatest entry of a column. -/
theorem first_notBelow {i : Fin 16} (hi : IsFirst (fun a => x (ix2 a l)) i) :
    colFirst (notBelow x (colMax x)) (ix2 0 l) = BitVec.ofNat 32 i.val := by
  rw [colFirst_apply]
  simp only [notBelow_apply, colMax_apply x l hi]
  exact fold_minsi (fun a => (x (ix2 i l) : EReal) ≤ x (ix2 a l)) le_rfl fun j hj => not_le.2 (hi.2 j hj)

/-- The position of the first least entry of a column. -/
theorem first_notAbove {k : Fin 16} (hk : IsFirst (fun a => -(x (ix2 a l) : EReal)) k) :
    colFirst (notAbove x (colMin x)) (ix2 0 l) = BitVec.ofNat 32 k.val := by
  rw [colFirst_apply]
  simp only [notAbove_apply, colMin_apply x l hk]
  exact fold_minsi (fun a => (x (ix2 a l) : EReal) ≤ x (ix2 k l)) le_rfl fun j hj =>
    not_le.2 (EReal.neg_lt_neg_iff.1 (hk.2 j hj))

/-- One bucket: the first greatest of the entries and their negatives. -/
theorem bucketRow_apply (o : BitVec 32) {g : Fin 32 → EReal}
    (hg : ∀ j : Fin 32, g j = if h : j.val < 16 then (x (ix2 ⟨j.val, h⟩ l) : EReal)
      else -(x (ix2 ⟨j.val - 16, by have := j.isLt; omega⟩ l) : EReal)) :
    ∃ i, IsFirst g i ∧ bucketRow x o (ix2 0 l) = BitVec.ofNat 32 i.val + o := by
  obtain ⟨i, hi⟩ := exists_isFirst fun a : Fin 16 => (x (ix2 a l) : EReal)
  obtain ⟨k, hk⟩ := exists_isFirst fun a : Fin 16 => -(x (ix2 a l) : EReal)
  refine ⟨_, isFirst_signed hg hi hk, ?_⟩
  refine congrArg (· + o) (Eq.trans (choose_apply l _ _ _ _) ?_)
  rw [colMax_apply x l hi, colMin_apply x l hk, first_notBelow x l hi, first_notAbove x l hk]
  by_cases hc : -(x (ix2 k l) : EReal) ≤ x (ix2 i l)
  · simp only [if_pos hc]
  · simp only [if_neg hc]
    exact (BitVec.ofNat_add 16 k.val).symm

/-- One bucket of one hash. -/
theorem stored_apply (P : FVec Ideal S128x2048 .f32) (h : Fin 8) {g : Fin 32 → EReal}
    (hg : ∀ j : Fin 32, g j = if hj : j.val < 16
      then (P (ix2 ⟨h.val * 16 + j.val, by have := h.isLt; omega⟩ l) : EReal)
      else -(P (ix2 ⟨h.val * 16 + (j.val - 16), by have := h.isLt; have := j.isLt; omega⟩ l) : EReal)) :
    ∃ i, IsFirst g i ∧ stored P (ix3 0 h l) = BitVec.ofNat 32 i.val + BitVec.ofNat 32 (h.val * 32) := by
  fin_cases h
  all_goals
    pointwise [stored]
    refine bucketRow_apply _ l _ fun j => (hg j).trans ?_
    pointwise

end Cert.KernelIdeal.Value
-- ==== Proof.Stages.lean ====
/- The stages of the reference's host program, each as one function of the arrays it reads: the gathers of one row's
   entries, the remainder, the sort that returns positions. -/
module

public import proofs.«01_k».proof.Proof.Gen.ReferenceIdeal.Frame
public import Idealize.ShloMosaic.Lib.Pointwise
public import Idealize.ShloMosaic.Lib.ValueIdx
public import Idealize.ShloMosaic.Lib.IdealHost

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The positions the index array names in rows of 16384 entries: negative ones count from the end. -/
def wrapPos (i : IVec S16x16384 32) : IVec S16x16384x1 32 :=
  shapeCast S16x16384x1
    (select (cmpi .slt i (broadcastInDim S16x16384 ![] bcast_S_S16x16384 (constantI S_ 32 0#32)))
      (addi i (broadcastInDim S16x16384 ![] bcast_S_S16x16384 (constantI S_ 32 16384#32))) i)
    shapeCasts_S16x16384_S16x16384x1

/-- The same for an index array with a trailing unit axis, counting from `n`. -/
def wrapRow (n : BitVec 32) (i : IVec S16x16384x1 32) : IVec S16x16384x1 32 :=
  select (cmpi .slt i (broadcastInDim S16x16384x1 ![] bcast_S_S16x16384x1 (constantI S_ 32 0#32)))
    (addi i (broadcastInDim S16x16384x1 ![] bcast_S_S16x16384x1 (constantI S_ 32 n))) i

/-- Which positions lie between 0 and `hi`. -/
def inRange (hi : BitVec 32) (k : IVec S16x16384x1 32) : IVec S16x16384 1 :=
  Host.reduce IntOp.andi
    (andi (cmpi .sge k (broadcastInDim S16x16384x1 ![] bcast_S_S16x16384x1 (constantI S_ 32 0#32)))
      (cmpi .sle k (broadcastInDim S16x16384x1 ![0, 1, 2] bcast_S1x1x1_S16x16384x1_0_1_2
        (broadcastInDim S1x1x1 ![2] bcast_S1_S1x1x1_2 (constantI S1 32 hi)))))
    (constantI S_ 1 1#1) reducesTo_S16x16384x1_S16x16384_d2 h_S_

/-- One entry of the row per index, and `fill` where the index is out of range. -/
def takePos {α : Type} (x : S16x16384.Idx → α) (i : IVec S16x16384 32) (fill : S16x16384.Idx → α) : S16x16384.Idx → α :=
  select (inRange 16383#32 (wrapPos i))
    (Host.gather gather_S16x16384_S16x16384x1_S16x16384_n_1_0_0_1_2_11 x (wrapPos i)) fill

/-- One vector of 64 among 2048 per index. -/
def takeRow (x : FVec Ideal S16x2048x64 .f32) (i : IVec S16x16384x1 32) : FVec Ideal S16x16384x64 .f32 :=
  select (broadcastInDim S16x16384x64 ![0, 1] bcast_S16x16384_S16x16384x64_0_1 (inRange 2047#32 (wrapRow 2048#32 i)))
    (Host.gather gather_S16x2048x64_S16x16384x1_S16x16384x64_2_1_0_0_1_2_1164 x (wrapRow 2048#32 i))
    (broadcastInDim S16x16384x64 ![] bcast_S_S16x16384x64 (constant S_ .f32 0x7FC00000#32))

/-- One vector of 64 among 16384 per index. -/
def takeLong (x : FVec Ideal S16x16384x64 .f32) (i : IVec S16x16384x1 32) : FVec Ideal S16x16384x64 .f32 :=
  select (broadcastInDim S16x16384x64 ![0, 1] bcast_S16x16384_S16x16384x64_0_1 (inRange 16383#32 (wrapRow 16384#32 i)))
    (Host.gather gather_S16x16384x64_S16x16384x1_S16x16384x64_2_1_0_0_1_2_1164 x (wrapRow 16384#32 i))
    (broadcastInDim S16x16384x64 ![] bcast_S_S16x16384x64 (constant S_ .f32 0x7FC00000#32))

/-- The divisor of a remainder: 1 in place of 0. -/
def divisor (d : IVec S_ 32) : IVec S_ 32 :=
  select (cmpi .eq d (constantI S_ 32 0#32)) (constantI S_ 32 1#32) d

/-- The remainder with the divisor's sign. -/
def remPos (x : IVec S16x16384 32) (d : IVec S_ 32) : IVec S16x16384 32 :=
  let e := divisor d
  let r := Host.remsi x (broadcastInDim S16x16384 ![] bcast_S_S16x16384 e)
  select
    (andi
      (cmpi .ne (cmpi .slt r (broadcastInDim S16x16384 ![] bcast_S_S16x16384 (constantI S_ 32 0#32)))
        (broadcastInDim S16x16384 ![] bcast_S_S16x16384 (cmpi .slt e (constantI S_ 32 0#32))))
      (cmpi .ne r (broadcastInDim S16x16384 ![] bcast_S_S16x16384 (constantI S_ 32 0#32))))
    (addi r (broadcastInDim S16x16384 ![] bcast_S_S16x16384 e)) r

/-- The positions that sort each row, equal keys in the order they stand. -/
def argsort (x : IVec S16x16384 32) : IVec S16x16384 32 :=
  (Host.sort2 S16x16384 1 comparator_i32_i32_d1 x (iotaInDim S16x16384 32 1)).2

/-- The rotated vectors and their negatives, side by side. -/
def rotated (rot : FVec Ideal S1x64x8x16 .f32) (qk : FVec Ideal S16x2048x64 .f32) : FVec Ideal S16x8x2048x32 .f32 :=
  let y := transpose S16x8x2048x16 [0, 1, 3, 2]
    (Host.dotGeneral dot_S16x64x8x16_S16x2048x64_S16x8x16x2048_1_2_23_1_0_0 none
      (broadcastInDim S16x64x8x16 ![0, 1, 2, 3] bcast_S1x64x8x16_S16x64x8x16_0_1_2_3 rot) qk)
    transposes_S16x8x16x2048_S16x8x2048x16_0_1_3_2
  concatenate S16x8x2048x32 3 [⟨S16x8x2048x16, y⟩, ⟨S16x8x2048x16, Host.negf y⟩]
    concatenates_S16x8x2048x16_S16x8x2048x16_S16x8x2048x32_d3

/-- The position of each row's greatest entry. -/
def argmax (x : FVec Ideal S16x8x2048x32 .f32) : IVec S16x8x2048 32 :=
  fun j => (Host.argReduce reducer_argmax_f32_i32 x (iotaInDim S16x8x2048x32 32 3) (constant S_ .f32 0xFF800000#32)
    (constantI S_ 32 0#32) reducesTo_S16x8x2048x32_S16x8x2048_d3 h_S_ j).2

/-- Each hash's buckets moved past those of the hashes before it. -/
def bucketIds (i : IVec S16x8x2048 32) : IVec S16x16384 32 :=
  shapeCast S16x16384
    (addi i (broadcastInDim S16x8x2048 ![0, 1, 2] bcast_S1x8x1_S16x8x2048_0_1_2
      (shapeCast S1x8x1 (muli (iotaInDim S8 32 0) (broadcastInDim S8 ![] bcast_S_S8 (constantI S_ 32 32#32)))
        shapeCasts_S8_S1x8x1)))
    shapeCasts_S16x8x2048_S16x16384

/-- Each vector's length. -/
def norms (q : FVec Ideal S16x256x64x64 .f32) : FVec Ideal S16x256x64x1 .f32 :=
  Host.sqrt (broadcastInDim S16x256x64x1 ![0, 1, 2] bcast_S16x256x64_S16x256x64x1_0_1_2
    (Host.reduceAdd (mulf q q) (constant S_ .f32 0x00000000#32) reducesTo_S16x256x64x64_S16x256x64_d3 h_S_))

/-- Each vector over its length and a little more. -/
def unitRows (q : FVec Ideal S16x256x64x64 .f32) (n : FVec Ideal S16x256x64x1 .f32) : FVec Ideal S16x256x64x64 .f32 :=
  Host.divf q (broadcastInDim S16x256x64x64 ![0, 1, 2, 3] bcast_S16x256x64x1_S16x256x64x64_0_1_2_3
    (addf n (broadcastInDim S16x256x64x1 ![] bcast_S_S16x256x64x1 (constant S_ .f32 0x358637BD#32))))

/-- Each chunk's vectors followed by those of the chunk before it. -/
def lookBack (x : FVec Ideal S16x256x64x64 .f32) : FVec Ideal S16x256x128x64 .f32 :=
  concatenate S16x256x128x64 2
    [⟨S16x256x64x64, x⟩,
     ⟨S16x256x64x64, concatenate S16x256x64x64 1
       [⟨S16x1x64x64, extractStridedSlice S16x1x64x64 ![0, 255, 0, 0] x slices_S16x256x64x64_S16x1x64x64_0_255_0_0⟩,
        ⟨S16x255x64x64, extractStridedSlice S16x255x64x64 ![0, 0, 0, 0] x slices_S16x256x64x64_S16x255x64x64_0_0_0_0⟩]
       concatenates_S16x1x64x64_S16x255x64x64_S16x256x64x64_d1⟩]
    concatenates_S16x256x64x64_S16x256x64x64_S16x256x128x64_d2

/-- Each chunk's positions followed by those of the chunk before it. -/
def lookBackPos (x : IVec S16x256x64 32) : IVec S16x256x128 32 :=
  concatenate S16x256x128 2
    [⟨S16x256x64, x⟩,
     ⟨S16x256x64, concatenate S16x256x64 1
       [⟨S16x1x64, extractStridedSlice S16x1x64 ![0, 255, 0] x slices_S16x256x64_S16x1x64_0_255_0⟩,
        ⟨S16x255x64, extractStridedSlice S16x255x64 ![0, 0, 0] x slices_S16x256x64_S16x255x64_0_0_0⟩]
       concatenates_S16x1x64_S16x255x64_S16x256x64_d1⟩]
    concatenates_S16x256x64_S16x256x64_S16x256x128_d2

/-- The scaled products of every query with every key of its chunk. -/
def scores (q : FVec Ideal S16x256x64x64 .f32) (k : FVec Ideal S16x256x128x64 .f32) : FVec Ideal S16x256x64x128 .f32 :=
  mulf (Host.dotGeneral dot_S16x256x64x64_S16x256x128x64_S16x256x64x128_3_3_2_2_01_01 none q k)
    (broadcastInDim S16x256x64x128 ![] bcast_S_S16x256x64x128 (constant S_ .f32 0x3E000000#32))

/-- 1 where a query and a key stand at the same position, 0 elsewhere. -/
def same (t : IVec S16x256x64 32) (u : IVec S16x256x128 32) : FVec Ideal S16x256x64x128 .f32 :=
  uitofp .f32 (cmpi .eq
    (broadcastInDim S16x256x64x128 ![0, 1, 2, 3] bcast_S16x256x64x1_S16x256x64x128_0_1_2_3
      (broadcastInDim S16x256x64x1 ![0, 1, 2] bcast_S16x256x64_S16x256x64x1_0_1_2 t))
    (broadcastInDim S16x256x64x128 ![0, 1, 2, 3] bcast_S16x256x1x128_S16x256x64x128_0_1_2_3
      (broadcastInDim S16x256x1x128 ![0, 1, 3] bcast_S16x256x128_S16x256x1x128_0_1_3 u)))

/-- The scores, with `f` in place of those the mask does not keep. -/
def masked (s e : FVec Ideal S16x256x64x128 .f32) (f : FVec Ideal S1x1 .f32) : FVec Ideal S16x256x64x128 .f32 :=
  addf (mulf s e)
    (mulf (subf (broadcastInDim S16x256x64x128 ![] bcast_S_S16x256x64x128 (constant S_ .f32 0x3F800000#32)) e)
      (broadcastInDim S16x256x64x128 ![0, 1, 2, 3] bcast_S1x1x1x1_S16x256x64x128_0_1_2_3
        (broadcastInDim S1x1x1x1 ![2, 3] bcast_S1x1_S1x1x1x1_2_3 f)))

/-- Each query's greatest score. -/
def topScore (x : FVec Ideal S16x256x64x128 .f32) : FVec Ideal S16x256x64x1 .f32 :=
  broadcastInDim S16x256x64x1 ![0, 1, 2] bcast_S16x256x64_S16x256x64x1_0_1_2
    (Host.reduce FloatOps.maximumf x (constant S_ .f32 0xFF800000#32) reducesTo_S16x256x64x128_S16x256x64_d3 h_S_)

/-- Which of them are finite. -/
def topFinite (t : FVec Ideal S16x256x64x1 .f32) : IVec S16x256x64x1 1 :=
  cmpf .olt (Host.absf t) (broadcastInDim S16x256x64x1 ![] bcast_S_S16x256x64x1 (constant S_ .f32 0x7F800000#32))

/-- The logarithm of the sum of the exponentials, shifted by `m`. -/
def lse (x : FVec Ideal S16x256x64x128 .f32) (m : FVec Ideal S16x256x64x1 .f32) : FVec Ideal S16x256x64x1 .f32 :=
  addf (Host.log (broadcastInDim S16x256x64x1 ![0, 1, 2] bcast_S16x256x64_S16x256x64x1_0_1_2
    (Host.reduceAdd (Host.exp (subf x (broadcastInDim S16x256x64x128 ![0, 1, 2, 3] bcast_S16x256x64x1_S16x256x64x128_0_1_2_3 m)))
      (constant S_ .f32 0x00000000#32) reducesTo_S16x256x64x128_S16x256x64_d3 h_S_))) m

/-- The values weighted by the exponentials of the scores less `l`. -/
def weighted (x : FVec Ideal S16x256x64x128 .f32) (l : FVec Ideal S16x256x64x1 .f32) (v : FVec Ideal S16x256x128x64 .f32) :
    FVec Ideal S16x256x64x64 .f32 :=
  Host.dotGeneral dot_S16x256x64x128_S16x256x128x64_S16x256x64x64_3_2_2_3_01_01 none
    (Host.exp (subf x (broadcastInDim S16x256x64x128 ![0, 1, 2, 3] bcast_S16x256x64x1_S16x256x64x128_0_1_2_3 l))) v

/-- The greatest logit over the hashes. -/
def topLogit (x : FVec Ideal S16x8x2048x1 .f32) : FVec Ideal S16x1x2048x1 .f32 :=
  broadcastInDim S16x1x2048x1 ![0, 2, 3] bcast_S16x2048x1_S16x1x2048x1_0_2_3
    (Host.reduce FloatOps.maximumf x (constant S_ .f32 0xFF800000#32) reducesTo_S16x8x2048x1_S16x2048x1_d1 h_S_)

/-- Which of them are finite. -/
def topLogitFinite (t : FVec Ideal S16x1x2048x1 .f32) : IVec S16x1x2048x1 1 :=
  cmpf .olt (Host.absf t) (broadcastInDim S16x1x2048x1 ![] bcast_S_S16x1x2048x1 (constant S_ .f32 0x7F800000#32))

/-- The logarithm of the sum over the hashes of the exponentials, shifted by `m`. -/
def lseHash (x : FVec Ideal S16x8x2048x1 .f32) (m : FVec Ideal S16x1x2048x1 .f32) : FVec Ideal S16x1x2048x1 .f32 :=
  addf (Host.log (broadcastInDim S16x1x2048x1 ![0, 2, 3] bcast_S16x2048x1_S16x1x2048x1_0_2_3
    (Host.reduceAdd (Host.exp (subf x (broadcastInDim S16x8x2048x1 ![0, 1, 2, 3] bcast_S16x1x2048x1_S16x8x2048x1_0_1_2_3 m)))
      (constant S_ .f32 0x00000000#32) reducesTo_S16x8x2048x1_S16x2048x1_d1 h_S_))) m

/-- The hashes' outputs weighted by the exponentials of the logits less `l`, summed. -/
def combine (o : FVec Ideal S16x8x2048x64 .f32) (x : FVec Ideal S16x8x2048x1 .f32) (l : FVec Ideal S16x1x2048x1 .f32) :
    FVec Ideal S16x2048x64 .f32 :=
  Host.reduceAdd
    (mulf o (broadcastInDim S16x8x2048x64 ![0, 1, 2, 3] bcast_S16x8x2048x1_S16x8x2048x64_0_1_2_3
      (Host.exp (subf x (broadcastInDim S16x8x2048x1 ![0, 1, 2, 3] bcast_S16x1x2048x1_S16x8x2048x1_0_1_2_3 l)))))
    (constant S_ .f32 0x00000000#32) reducesTo_S16x8x2048x64_S16x2048x64_d1 h_S_

variable (V : Valuation τ sig (Elt Ideal))

set_option maxHeartbeats 4000000 in
/-- The rotated vectors and their negatives. -/
theorem after0_v4 : StableHlo.after hostOps0 V (Proc.devRef .tc main_v4)
    = rotated (V (Proc.devRef .tc main_arg2)) (V (Proc.devRef .tc main_arg0)) := by
  simp only [hostOps0, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The greatest one's position. -/
theorem after0_1_v5 : StableHlo.after hostOps0_1 V (Proc.devRef .tc main_v5)
    = argmax (V (Proc.devRef .tc main_v4)) := by
  simp only [hostOps0_1, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The second result: the bucket of every vector under every hash. -/
theorem after0_2_v12 : StableHlo.after hostOps0_2 V (Proc.devRef .tc main_v12)
    = bucketIds (V (Proc.devRef .tc main_v5)) := by
  simp only [hostOps0_2, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The tickers. -/
theorem after0_2_v14 : StableHlo.after hostOps0_2 V (Proc.devRef .tc main_v14)
    = broadcastInDim S1x16384 ![1] bcast_S16384_S1x16384_1 (iotaInDim S16384 32 0) := by
  simp only [hostOps0_2, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp

set_option maxHeartbeats 4000000 in
/-- The positions that sort the keys. -/
theorem after0_5_v20 : StableHlo.after hostOps0_5 V (Proc.devRef .tc main_v20)
    = argsort (V (Proc.devRef .tc main_v19)) := by
  simp only [hostOps0_5, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The tickers of every batch. -/
theorem after0_7_v22 : StableHlo.after hostOps0_7 V (Proc.devRef .tc main_v22)
    = broadcastInDim S16x16384 ![0, 1] bcast_S1x16384_S16x16384_0_1 (V (Proc.devRef .tc main_v14)) := by
  simp only [hostOps0_7, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp

set_option maxHeartbeats 4000000 in
/-- The tickers in sorted order. -/
theorem after0_8_v23 : StableHlo.after hostOps0_8 V (Proc.devRef .tc main_v23)
    = takePos (α := BitVec 32) (V (Proc.devRef .tc main_v22)) (V (Proc.devRef .tc main_v20))
        (broadcastInDim S16x16384 ![] bcast_S_S16x16384 (constantI S_ 32 2147483648#32)) := by
  simp only [hostOps0_8, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The positions that put the sorted tickers back. -/
theorem after0_9_v24 : StableHlo.after hostOps0_9 V (Proc.devRef .tc main_v24)
    = argsort (V (Proc.devRef .tc main_v23)) := by
  simp only [hostOps0_9, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The sequence's length. -/
theorem after0_10_c_2 : StableHlo.after hostOps0_10 V (Proc.devRef .tc main_c_2)
    = constantI S_ 32 2048#32 := by
  simp only [hostOps0_10, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp

set_option maxHeartbeats 4000000 in
/-- The sorted tickers' places in the sequence. -/
theorem after0_11_v25 : StableHlo.after hostOps0_11 V (Proc.devRef .tc main_v25)
    = remPos (V (Proc.devRef .tc main_v23)) (V (Proc.devRef .tc main_c_2)) := by
  simp only [hostOps0_11, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The places as indices of the query rows. -/
theorem after0_12_v26 : StableHlo.after hostOps0_12 V (Proc.devRef .tc main_v26)
    = broadcastInDim S16x16384x1 ![0, 1] bcast_S16x16384_S16x16384x1_0_1 (V (Proc.devRef .tc main_v25)) := by
  simp only [hostOps0_12, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp

set_option maxHeartbeats 4000000 in
/-- The sorted query rows. -/
theorem after0_13_v27 : StableHlo.after hostOps0_13 V (Proc.devRef .tc main_v27)
    = takeRow (V (Proc.devRef .tc main_arg0)) (V (Proc.devRef .tc main_v26)) := by
  simp only [hostOps0_13, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The places as indices of the value rows. -/
theorem after0_14_v28 : StableHlo.after hostOps0_14 V (Proc.devRef .tc main_v28)
    = broadcastInDim S16x16384x1 ![0, 1] bcast_S16x16384_S16x16384x1_0_1 (V (Proc.devRef .tc main_v25)) := by
  simp only [hostOps0_14, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp

set_option maxHeartbeats 4000000 in
/-- The sorted value rows. -/
theorem after0_15_v29 : StableHlo.after hostOps0_15 V (Proc.devRef .tc main_v29)
    = takeRow (V (Proc.devRef .tc main_arg1)) (V (Proc.devRef .tc main_v28)) := by
  simp only [hostOps0_15, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The places in chunks. -/
theorem after0_16_v30 : StableHlo.after hostOps0_16 V (Proc.devRef .tc main_v30)
    = shapeCast S16x256x64 (V (Proc.devRef .tc main_v25)) shapeCasts_S16x16384_S16x256x64 := by
  simp only [hostOps0_16, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The query rows in chunks. -/
theorem after0_16_v31 : StableHlo.after hostOps0_16 V (Proc.devRef .tc main_v31)
    = shapeCast S16x256x64x64 (V (Proc.devRef .tc main_v27)) shapeCasts_S16x16384x64_S16x256x64x64 := by
  simp only [hostOps0_16, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The value rows in chunks. -/
theorem after0_16_v32 : StableHlo.after hostOps0_16 V (Proc.devRef .tc main_v32)
    = shapeCast S16x256x64x64 (V (Proc.devRef .tc main_v29)) shapeCasts_S16x16384x64_S16x256x64x64 := by
  simp only [hostOps0_16, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The query rows' lengths. -/
theorem after0_17_v33 : StableHlo.after hostOps0_17 V (Proc.devRef .tc main_v33)
    = norms (V (Proc.devRef .tc main_v31)) := by
  simp only [hostOps0_17, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The value rows of every chunk and the one before. -/
theorem after0_18_v45 : StableHlo.after hostOps0_18 V (Proc.devRef .tc main_v45)
    = lookBack (V (Proc.devRef .tc main_v32)) := by
  simp only [hostOps0_18, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The scores. -/
theorem after0_18_v52 : StableHlo.after hostOps0_18 V (Proc.devRef .tc main_v52)
    = scores (V (Proc.devRef .tc main_v31)) (lookBack (unitRows (V (Proc.devRef .tc main_v31)) (V (Proc.devRef .tc main_v33)))) := by
  simp only [hostOps0_18, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The mask. -/
theorem after0_18_v58 : StableHlo.after hostOps0_18 V (Proc.devRef .tc main_v58)
    = same (V (Proc.devRef .tc main_v30)) (lookBackPos (V (Proc.devRef .tc main_v30))) := by
  simp only [hostOps0_18, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The one the mask's fill is made of. -/
theorem after0_18_v59 : StableHlo.after hostOps0_18 V (Proc.devRef .tc main_v59)
    = broadcastInDim S1x1 ![] bcast_S_S1x1 (constant (F := Ideal) S_ .f32 0x3F800000#32) := by
  simp only [hostOps0_18, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp

set_option maxHeartbeats 4000000 in
/-- The masked scores. -/
theorem after1_v67 : StableHlo.after hostOps1 V (Proc.devRef .tc main_v67)
    = masked (V (Proc.devRef .tc main_v52)) (V (Proc.devRef .tc main_v58)) (V (Proc.devRef .tc main_v60)) := by
  simp only [hostOps1, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- Their greatest. -/
theorem after1_v69 : StableHlo.after hostOps1 V (Proc.devRef .tc main_v69)
    = topScore (masked (V (Proc.devRef .tc main_v52)) (V (Proc.devRef .tc main_v58)) (V (Proc.devRef .tc main_v60))) := by
  simp only [hostOps1, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- Whether it is finite. -/
theorem after1_v72 : StableHlo.after hostOps1 V (Proc.devRef .tc main_v72)
    = topFinite (topScore (masked (V (Proc.devRef .tc main_v52)) (V (Proc.devRef .tc main_v58)) (V (Proc.devRef .tc main_v60)))) := by
  simp only [hostOps1, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The zero that stands for an infinite one. -/
theorem after1_cst_8 : StableHlo.after hostOps1 V (Proc.devRef .tc main_cst_8)
    = constant (F := Ideal) S_ .f32 0x00000000#32 := by
  simp only [hostOps1, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp

set_option maxHeartbeats 4000000 in
/-- The shift. -/
theorem after1_1_v73 : StableHlo.after hostOps1_1 V (Proc.devRef .tc main_v73)
    = select (α := Ideal .f32) (V (Proc.devRef .tc main_v72)) (V (Proc.devRef .tc main_v69)) (broadcastInDim S16x256x64x1 ![] bcast_S_S16x256x64x1 (V (Proc.devRef .tc main_cst_8))) := by
  simp only [hostOps1_1, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The sorted rows' outputs. -/
theorem after1_2_v85 : StableHlo.after hostOps1_2 V (Proc.devRef .tc main_v85)
    = shapeCast S16x16384x64 (weighted (V (Proc.devRef .tc main_v67)) (lse (V (Proc.devRef .tc main_v67)) (V (Proc.devRef .tc main_v73))) (V (Proc.devRef .tc main_v45)))
        shapeCasts_S16x256x64x64_S16x16384x64 := by
  simp only [hostOps1_2, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The sorted rows' logits. -/
theorem after1_2_v86 : StableHlo.after hostOps1_2 V (Proc.devRef .tc main_v86)
    = shapeCast S16x16384 (lse (V (Proc.devRef .tc main_v67)) (V (Proc.devRef .tc main_v73))) shapeCasts_S16x256x64x1_S16x16384 := by
  simp only [hostOps1_2, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The positions as indices. -/
theorem after1_2_v87 : StableHlo.after hostOps1_2 V (Proc.devRef .tc main_v87)
    = broadcastInDim S16x16384x1 ![0, 1] bcast_S16x16384_S16x16384x1_0_1 (V (Proc.devRef .tc main_v24)) := by
  simp only [hostOps1_2, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp

set_option maxHeartbeats 4000000 in
/-- The outputs put back. -/
theorem after1_3_v88 : StableHlo.after hostOps1_3 V (Proc.devRef .tc main_v88)
    = takeLong (V (Proc.devRef .tc main_v85)) (V (Proc.devRef .tc main_v87)) := by
  simp only [hostOps1_3, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The logits put back. -/
theorem after1_4_v89 : StableHlo.after hostOps1_4 V (Proc.devRef .tc main_v89)
    = takePos (α := Ideal .f32) (V (Proc.devRef .tc main_v86)) (V (Proc.devRef .tc main_v24))
        (broadcastInDim S16x16384 ![] bcast_S_S16x16384 (constant S_ .f32 0x7FC00000#32)) := by
  simp only [hostOps1_4, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The outputs by hash. -/
theorem after1_5_v90 : StableHlo.after hostOps1_5 V (Proc.devRef .tc main_v90)
    = shapeCast S16x8x2048x64 (V (Proc.devRef .tc main_v88)) shapeCasts_S16x16384x64_S16x8x2048x64 := by
  simp only [hostOps1_5, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The logits by hash. -/
theorem after1_5_v91 : StableHlo.after hostOps1_5 V (Proc.devRef .tc main_v91)
    = shapeCast S16x8x2048x1 (V (Proc.devRef .tc main_v89)) shapeCasts_S16x16384_S16x8x2048x1 := by
  simp only [hostOps1_5, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- Their greatest over the hashes. -/
theorem after1_5_v93 : StableHlo.after hostOps1_5 V (Proc.devRef .tc main_v93)
    = topLogit (shapeCast S16x8x2048x1 (V (Proc.devRef .tc main_v89)) shapeCasts_S16x16384_S16x8x2048x1) := by
  simp only [hostOps1_5, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- Whether it is finite. -/
theorem after1_5_v96 : StableHlo.after hostOps1_5 V (Proc.devRef .tc main_v96)
    = topLogitFinite (topLogit (shapeCast S16x8x2048x1 (V (Proc.devRef .tc main_v89)) shapeCasts_S16x16384_S16x8x2048x1)) := by
  simp only [hostOps1_5, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The zero that stands for an infinite one. -/
theorem after1_5_cst_12 : StableHlo.after hostOps1_5 V (Proc.devRef .tc main_cst_12)
    = constant (F := Ideal) S_ .f32 0x00000000#32 := by
  simp only [hostOps1_5, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp

set_option maxHeartbeats 4000000 in
/-- The shift. -/
theorem after1_6_v97 : StableHlo.after hostOps1_6 V (Proc.devRef .tc main_v97)
    = select (α := Ideal .f32) (V (Proc.devRef .tc main_v96)) (V (Proc.devRef .tc main_v93)) (broadcastInDim S16x1x2048x1 ![] bcast_S_S16x1x2048x1 (V (Proc.devRef .tc main_cst_12))) := by
  simp only [hostOps1_6, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

set_option maxHeartbeats 4000000 in
/-- The first result. -/
theorem after1_7_v110 : StableHlo.after hostOps1_7 V (Proc.devRef .tc main_v110)
    = combine (V (Proc.devRef .tc main_v90)) (V (Proc.devRef .tc main_v91)) (lseHash (V (Proc.devRef .tc main_v91)) (V (Proc.devRef .tc main_v97))) := by
  simp only [hostOps1_7, StableHlo.TRef.binary, StableHlo.TRef.nullary, StableHlo.TRef.unary, StableHlo.TRef.ternary,
    StableHlo.TRef.quaternary, StableHlo.TRef.reshape, StableHlo.TRef.toBuf, StableHlo.TRef.ofBuf, cast_eq]
  after_results_simp
  rfl

end Cert.ReferenceIdeal.Value
-- ==== Proof.Argmax.lean ====
/- The reference's buckets: its search returns the position of the first greatest entry of a row of rotated vectors and
   their negatives. -/
module

public import proofs.«01_k».proof.Proof.Stages
public import proofs.«01_k».proof.Proof.First

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.First

/-- The search keeps one of two pairs, and neither is better than the one it keeps. -/
theorem reducer_best (a b : EReal × BitVec 32) :
    (reducer_argmax_f32_i32 (F := Ideal) a b = a ∨ reducer_argmax_f32_i32 (F := Ideal) a b = b)
      ∧ NoBetter a (reducer_argmax_f32_i32 (F := Ideal) a b) ∧ NoBetter b (reducer_argmax_f32_i32 (F := Ideal) a b) := by
  obtain ⟨x, p⟩ := a
  obtain ⟨y, q⟩ := b
  have hr : reducer_argmax_f32_i32 (F := Ideal) (x, p) (y, q)
      = (if y < x then x else y, if y < x ∨ (x = y ∧ p.toInt < q.toInt) then p else q) := by
    unfold reducer_argmax_f32_i32
    by_cases h1 : y < x <;> by_cases h2 : x = y <;> by_cases h3 : p.toInt < q.toInt <;>
      simp [Ideal.cmpf_def, Ideal.cmp, IntOp.cmpi, IntOp.ori, IntOp.andi, Scalar.select, BitVec.slt_eq_decide, h1, h2, h3]
  rw [hr]
  unfold NoBetter
  rcases lt_trichotomy x y with h | h | h
  · simp [h, h.not_gt, h.ne]
  · subst h
    by_cases h3 : p.toInt < q.toInt
    · simp [h3, h3.le]
    · simp [h3, not_lt.1 h3]
  · simp [h, h.ne']

/-- The search over one row: the row's entries with their positions. -/
theorem mem_fiber (x : FVec Ideal S16x8x2048x32 .f32) (b : Fin 16) (h : Fin 8) (l : Fin 2048) (p : EReal × BitVec 32) :
    p ∈ Host.argReduceFiber x (iotaInDim S16x8x2048x32 32 3) reducesTo_S16x8x2048x32_S16x8x2048_d3 (ix3 b h l)
      ↔ ∃ a : Fin 32, p = (x (ix4 b h l a), BitVec.ofNat 32 a.val) := by
  have hdrop : ∀ i : S16x8x2048x32.Idx, reducesTo_S16x8x2048x32_S16x8x2048_d3.drop i = ix3 b h l
      ↔ ∃ a : Fin 32, i = ix4 b h l a := fun i => by
    have h0 : (reducesTo_S16x8x2048x32_S16x8x2048_d3.drop i 0 : Nat) = i 0 := Shape.ReducesTo.drop_apply_val _ i 0
    have h1 : (reducesTo_S16x8x2048x32_S16x8x2048_d3.drop i 1 : Nat) = i 1 := Shape.ReducesTo.drop_apply_val _ i 1
    have h2 : (reducesTo_S16x8x2048x32_S16x8x2048_d3.drop i 2 : Nat) = i 2 := Shape.ReducesTo.drop_apply_val _ i 2
    constructor
    · intro e
      rw [e] at h0 h1 h2
      refine ⟨i 3, ?_⟩
      funext c
      match c with
      | ⟨0, _⟩ => exact Fin.ext h0.symm
      | ⟨1, _⟩ => exact Fin.ext h1.symm
      | ⟨2, _⟩ => exact Fin.ext h2.symm
      | ⟨3, _⟩ => rfl
    · rintro ⟨a, rfl⟩
      funext c
      match c with
      | ⟨0, _⟩ => exact Fin.ext h0
      | ⟨1, _⟩ => exact Fin.ext h1
      | ⟨2, _⟩ => exact Fin.ext h2
  unfold Host.argReduceFiber
  simp only [List.mem_map, List.mem_filter, List.mem_finRange, true_and, decide_eq_true_eq, hdrop]
  constructor
  · rintro ⟨n, ⟨a, ha⟩, rfl⟩
    exact ⟨a, by rw [ha]; rfl⟩
  · rintro ⟨a, rfl⟩
    exact ⟨S16x8x2048x32.rowMajor (ix4 b h l a), ⟨a, by simp⟩, by simp only [Equiv.symm_apply_apply]; rfl⟩

/-- A search over pairs of a family's entries and positions returns the position of the first greatest entry. -/
theorem search_row {g : Fin 32 → EReal} {i : Fin 32} (hi : IsFirst g i) (L : List (EReal × BitVec 32))
    (hL : ∀ p, p ∈ L ↔ ∃ a : Fin 32, p = (g a, BitVec.ofNat 32 a.val)) (p : EReal × BitVec 32) (hp : p = (⊥, 0#32)) :
    (L.foldl (reducer_argmax_f32_i32 (F := Ideal)) p).2 = BitVec.ofNat 32 i.val := by
  subst hp
  obtain ⟨hm, hb⟩ := foldl_best (reducer_argmax_f32_i32 (F := Ideal)) reducer_best L (⊥, 0#32)
  exact best_eq hi hL hm hb

/-- The least value. -/
theorem least_value (j : S_.Idx) : (constant (F := Ideal) S_ .f32 0xFF800000#32) j = (⊥ : EReal) := by
  pointwise
  simp [Ideal.ofBits, Ideal.ieee]

/-- The positions that the search returns. -/
def search {s t u : Shape} {axes : List (Fin s.rank)} (x : FVec Ideal s .f32) (y : IVec s 32)
    (p : FVec Ideal u .f32) (q : IVec u 32) (h : s.ReducesTo axes t) (hu : 0 < u.numel) : IVec t 32 :=
  fun j => (Host.argReduce (reducer_argmax_f32_i32 (F := Ideal)) x y p q h hu j).2

/-- The search, from the least value at position zero, over entries with their positions returns the position of the first
    greatest entry. -/
theorem search_apply {s t u : Shape} {axes : List (Fin s.rank)} (x : FVec Ideal s .f32) (y : IVec s 32)
    (p : FVec Ideal u .f32) (q : IVec u 32) (h : s.ReducesTo axes t) (hu : 0 < u.numel) (j : t.Idx)
    {g : Fin 32 → EReal} {i : Fin 32} (hi : IsFirst g i)
    (hL : ∀ r, r ∈ Host.argReduceFiber x y h j ↔ ∃ a : Fin 32, r = (g a, BitVec.ofNat 32 a.val))
    (hp : ∀ k, p k = (⊥ : EReal)) (hq : ∀ k, q k = 0#32) : search x y p q h hu j = BitVec.ofNat 32 i.val := by
  unfold search
  rw [Ideal.argReduce_eq_reduce2, Host.reduce2_eq_foldl_fiber]
  exact search_row hi _ hL _ (Prod.ext (hp _) (hq _))

/-- The reference's search is over the last axis. -/
theorem argmax_eq_search (x : FVec Ideal S16x8x2048x32 .f32) :
    argmax x = search x (iotaInDim S16x8x2048x32 32 3) (constant S_ .f32 0xFF800000#32) (constantI S_ 32 0#32)
      reducesTo_S16x8x2048x32_S16x8x2048_d3 h_S_ := rfl

/-- The position of a row's greatest entry is that of the first. -/
theorem argmax_apply (x : FVec Ideal S16x8x2048x32 .f32) (b : Fin 16) (h : Fin 8) (l : Fin 2048) {i : Fin 32}
    (hi : IsFirst (fun a => x (ix4 b h l a)) i) : argmax x (ix3 b h l) = BitVec.ofNat 32 i.val := by
  rw [argmax_eq_search]
  exact search_apply x (iotaInDim S16x8x2048x32 32 3) (constant S_ .f32 0xFF800000#32) (constantI S_ 32 0#32)
    reducesTo_S16x8x2048x32_S16x8x2048_d3 h_S_ (ix3 b h l) hi (mem_fiber x b h l) least_value fun _ => rfl

/-- A row of rotated vectors and their negatives. -/
theorem rotated_apply (rot : FVec Ideal S1x64x8x16 .f32) (qk : FVec Ideal S16x2048x64 .f32) (b : Fin 16) (h : Fin 8)
    (l : Fin 2048) (j : Fin 32) : rotated rot qk (ix4 b h l j)
      = if hj : j.val < 16 then (∑ x : Fin 64, (rot (ix4 0 x h ⟨j.val, hj⟩) : EReal) * qk (ix3 b l x) : EReal)
        else -(∑ x : Fin 64, (rot (ix4 0 x h ⟨j.val - 16, by have := j.isLt; omega⟩) : EReal) * qk (ix3 b l x) : EReal) := by
  pointwise [rotated]

/-- Thirty-two buckets for each hash before this one. -/
theorem passed_apply (b : Fin 16) (h : Fin 8) (l : Fin 2048) :
    broadcastInDim S16x8x2048 ![0, 1, 2] bcast_S1x8x1_S16x8x2048_0_1_2
      (shapeCast S1x8x1 (muli (iotaInDim S8 32 0) (broadcastInDim S8 ![] bcast_S_S8 (constantI S_ 32 32#32)))
        shapeCasts_S8_S1x8x1) (ix3 b h l) = BitVec.ofNat 32 (h.val * 32) := by
  pointwise
  exact (BitVec.ofNat_mul h.val 32).symm

/-- The bucket of every vector under every hash, the hashes joined. -/
theorem bucketIds_eq (i : IVec S16x8x2048 32) :
    bucketIds i = shapeCast S16x16384 (fun j => i j + BitVec.ofNat 32 ((j 1).val * 32)) shapeCasts_S16x8x2048_S16x16384 := by
  unfold bucketIds
  refine congrArg (fun x => shapeCast S16x16384 x shapeCasts_S16x8x2048_S16x16384) (funext fun j => ?_)
  obtain ⟨b, h, l, rfl⟩ : ∃ (b : Fin 16) (h : Fin 8) (l : Fin 2048), j = ix3 b h l := ⟨_, _, _, ValueIdx.eq_ix3 j⟩
  exact congrArg (i (ix3 b h l) + ·) (passed_apply b h l)

end Cert.ReferenceIdeal.Value
-- ==== Proof.KernelValue.lean ====
/- The kernel's run: its first result is its second argument, its second result the bucket of every vector under every
   hash, and its arguments end as they began. -/
module

public import proofs.«01_k».proof.Proof.Rows
public import proofs.«01_k».proof.Proof.Argmax
public import Idealize.ShloMosaic.Lib.Pipeline.ValueKit
public import Idealize.ShloMosaic.Lib.Claim

@[expose] public section

set_option maxRecDepth 16384

noncomputable section

namespace Cert.KernelIdeal.Value

open Idealize.ShloMosaic Idealize.ShloMosaic.TcCoe Idealize.SL.Sem
open Cert.KernelIdeal Cert.KernelIdeal.Gen Cert.First
open Cert.ReferenceIdeal.Value (rotated argmax bucketIds)

variable (m : (ℓ : Loc nD τ sig) → Buf (Elt Ideal) ℓ) (ρ : Dev nD → PrngReg)

/-- Which block each window is at: the point's in every one but the rotations', which has one. -/
theorem idx : ∀ t : Fin cfg0.N, win0_0.index t = ![t.val, 0, 0] ∧ win0_1.index t = ![t.val, 0, 0]
    ∧ win0_2.index t = ![0, 0] ∧ win0_3.index t = ![t.val, 0, 0] ∧ win0_4.index t = ![t.val, 0, 0] :=
  (by decide +kernel : ∀ t : Fin grid0.N, _)

/-- A block of the first result is that of the second argument. -/
theorem point3 (c : Dev nD) (t : Fin cfg0.N) (y : S1x2048x64.Idx) :
    k0_pay1 (F := Ideal) (k0_pay22 (iblk m c 1 t)) y = V m c main_arg1 (((cfg0.win 3).blk t).view.emb y) := by
  pointwise [k0_pay1, k0_pay22]
  blk_point [iblk, V, idx t]

/-- The first result is the second argument. -/
theorem final3 (c : Dev nD) : (dats m 0 c).arrAt 3 (cfgs 0).N = V m c main_arg1 := by
  refine (dats m 0 c).arrAt_eq_of_covers 3 _ (by decide +kernel) fun t _ y => ?_
  blk_simp
  rw [after0_3]
  frame_out
  exact point3 m c t y

/-- The rotations, as the kernel holds them. -/
theorem V_v0 (c : Dev nD) : V m c main_v0 = shapeCast S64x128 (m ((c : Thread nD τ).loc main_arg2)) shapeCasts_S1x64x8x16_S64x128 := by
  simp only [V, V0, List.flatten_cons, List.flatten_nil, List.append_nil]
  after_results_simp
  rfl

/-- One rotated coordinate of one vector. -/
theorem dot_apply (x : Vec Ideal S1x2048x64 .f32) (r : Vec Ideal S64x128 .f32) (a : Fin 128) (l : Fin 2048) :
    k0_pay2 (F := Ideal) x r (ix2 a l) = (∑ e : Fin 64, (r (ix2 e a) : EReal) * x (ix3 0 l e) : EReal) := by
  pointwise [k0_pay2]

/-- The bucket of every vector under every hash, before the hashes are joined. -/
def bucketAt (rot : FVec Ideal S1x64x8x16 .f32) (qk : FVec Ideal S16x2048x64 .f32) : IVec S16x8x2048 32 :=
  fun j => argmax (rotated rot qk) j + BitVec.ofNat 32 ((j 1).val * 32)

/-- A grid point as a batch entry. -/
def batch (t : Fin cfg0.N) : Fin 16 := ⟨t.val, t.isLt⟩

/-- The rotations joined hash after hash. -/
theorem joined_apply (x : FVec Ideal S1x64x8x16 .f32) (e : Fin 64) (h : Fin 8) (a : Fin 16) :
    shapeCast S64x128 x shapeCasts_S1x64x8x16_S64x128
        (ix2 e ⟨h.val * 16 + a.val, by have := h.isLt; have := a.isLt; omega⟩) = x (ix4 0 e h a) := by
  refine shapeCast_apply x _ _ _ ?_
  rw [Shape.rowMajor_val_two, Shape.rowMajor_val_four]
  show ((0 * 64 + e.val) * 8 + h.val) * 16 + a.val = e.val * 128 + (h.val * 16 + a.val)
  omega

/-- The vector block of a point. -/
theorem block_qk (c : Dev nD) (t : Fin cfg0.N) (l : Fin 2048) (e : Fin 64) :
    iblk m c 0 t (ix3 0 l e) = m ((c : Thread nD τ).loc main_arg0) (ix3 (batch t) l e) := by
  rw [← V_main_arg0 m c]
  unfold batch
  blk_point [iblk, V, idx t]

/-- The rotations at a point. -/
theorem block_rot (c : Dev nD) (t : Fin cfg0.N) (e : Fin 64) (h : Fin 8) (a : Fin 16) :
    iblk m c 2 t (ix2 e ⟨h.val * 16 + a.val, by have := h.isLt; have := a.isLt; omega⟩)
      = m ((c : Thread nD τ).loc main_arg2) (ix4 0 e h a) := by
  have hV : iblk m c 2 t (ix2 e ⟨h.val * 16 + a.val, by have := h.isLt; have := a.isLt; omega⟩)
      = V m c main_v0 (ix2 e ⟨h.val * 16 + a.val, by have := h.isLt; have := a.isLt; omega⟩) := by
    blk_point [iblk, V, idx t]
  rw [hV, V_v0]
  exact joined_apply _ e h a

/-- A point's buckets. -/
theorem point4 (c : Dev nD) (t : Fin cfg0.N) (h : Fin 8) (l : Fin 2048) :
    stored (k0_pay2 (F := Ideal) (iblk m c 0 t) (iblk m c 2 t)) (ix3 0 h l)
      = bucketAt (m ((c : Thread nD τ).loc main_arg2)) (m ((c : Thread nD τ).loc main_arg0)) (ix3 (batch t) h l) := by
  obtain ⟨i, hi, e⟩ := stored_apply l (k0_pay2 (F := Ideal) (iblk m c 0 t) (iblk m c 2 t)) h
    (g := fun j => rotated (m ((c : Thread nD τ).loc main_arg2)) (m ((c : Thread nD τ).loc main_arg0)) (ix4 (batch t) h l j))
    fun j => by
      refine (Cert.ReferenceIdeal.Value.rotated_apply _ _ (batch t) h l j).trans ?_
      split
      · rename_i hj
        rw [dot_apply]
        simp only [block_qk, block_rot m c t _ h ⟨j.val, hj⟩]
      · rw [dot_apply]
        simp only [block_qk, block_rot m c t _ h ⟨j.val - 16, by have := j.isLt; omega⟩]
  rw [e]
  exact congrArg (· + BitVec.ofNat 32 (h.val * 32)) (Cert.ReferenceIdeal.Value.argmax_apply _ (batch t) h l hi).symm

/-- A point's block of the second result. -/
theorem emb4 (t : Fin cfg0.N) (h : Fin 8) (l : Fin 2048) :
    (((cfg0.win 4).blk t).view.emb (ix3 0 h l : S1x8x2048.Idx) : S16x8x2048.Idx) = ix3 (batch t) h l := by
  unfold batch
  blk_point [idx t]

/-- The second result before the hashes are joined. -/
theorem final4 (c : Dev nD) : (dats m 0 c).arrAt 4 (cfgs 0).N
    = bucketAt (m ((c : Thread nD τ).loc main_arg2)) (m ((c : Thread nD τ).loc main_arg0)) := by
  refine (dats m 0 c).arrAt_eq_of_covers 4 _ (by decide +kernel) fun t _ y => ?_
  obtain ⟨z, h, l, rfl⟩ : ∃ (z : Fin 1) (h : Fin 8) (l : Fin 2048), y = ix3 z h l := ⟨_, _, _, ValueIdx.eq_ix3 y⟩
  obtain rfl : z = 0 := Subsingleton.elim _ _
  blk_simp
  rw [after0_4]
  unfold_out out0_4
  frame_out
  rw [stored_eq, point4]
  exact congrArg _ (emb4 t h l).symm

/-- The second result. -/
theorem v2_eq (c : Dev nD) : Pipeline.afterTail₀ cfgs (dats m) 0 (V0 m) [hostOps1] c main_v2
    = bucketIds (argmax (rotated (m ((c : Thread nD τ).loc main_arg2)) (m ((c : Thread nD τ).loc main_arg0)))) := by
  unfold Pipeline.afterTail₀
  simp only [List.flatten_cons, List.flatten_nil, List.append_nil]
  after_results_simp
  refine Eq.trans ?_ (Cert.ReferenceIdeal.Value.bucketIds_eq _).symm
  exact congrArg (fun x => shapeCast S16x16384 x shapeCasts_S16x8x2048_S16x16384)
    ((Pipeline.withArrays_arr spec0 (by decide +kernel) c (V0 m c) _ 4).trans (final4 m c))

/-- THE RUN of the kernel. -/
theorem run : θ_run defs (onTc (τ := τ) (main (F := Ideal))) ⟨m, fun _ => 0, ρ⟩ (fun r => ∀ c : Dev nD,
    r.2.mem ((c.tc : Thread nD τ).loc main_v1_0) = m ((c.tc : Thread nD τ).loc main_arg1)
    ∧ r.2.mem ((c.tc : Thread nD τ).loc main_v2)
      = bucketIds (argmax (rotated (m ((c.tc : Thread nD τ).loc main_arg2)) (m ((c.tc : Thread nD τ).loc main_arg0))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨((h c).1 3).trans ((final3 m c).trans (V_main_arg1 m c)),
      ((h c).2 main_v2 (Pipeline.mem_restRefs_of main_v2 (by decide) (by decide))).trans (v2_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Value
-- ==== Proof.Sorting.lean ====
/- The two sorts of the reference: the positions that sort a row are a permutation of the row, and sorting a permutation
   gives its inverse. -/
module

public import proofs.«01_k».proof.Proof.Stages
public import Idealize.ShloMosaic.Lib.WordCmp
public import Idealize.ShloMosaic.Lib.SortFacts

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- Which of two positions of a row holds the smaller key. -/
def before (x : IVec S16x16384 32) (b : Fin 16) (k k' : Fin 16384) : Bool :=
  IntOp.cmpi .slt (x (ix2 b k)) (x (ix2 b k')) == 1#1

/-- The position that comes `p`-th in the sorted row. -/
def order (x : IVec S16x16384 32) (b : Fin 16) : Fin 16384 → Fin 16384 := sortedFrom (before x b)

/-- The second result of a sort along an axis: the second operand at the sorted position. -/
theorem sort2_snd {s : Shape} (a : Fin s.rank) {α β : Type} (cmp : α × β → α × β → BitVec 1) (x : s.Idx → α) (y : s.Idx → β)
    (j : s.Idx) : (Host.sort2 s a.val cmp x y).2 j
      = y (j.along a (sortedFrom (fun k k' => cmp (x (j.along a k), y (j.along a k)) (x (j.along a k'), y (j.along a k')) == 1#1) (j a))) := by
  unfold Host.sort2
  rw [dif_pos a.isLt]

/-- An index of the rows moved along the row. -/
theorem along_row (b : Fin 16) (p : Fin 16384) (k : Fin (S16x16384.size 1)) :
    Shape.Idx.along (s := S16x16384) (ix2 b p) 1 k = ix2 b (k : Fin 16384) := by
  funext a
  match a with
  | ⟨0, _⟩ => rfl
  | ⟨1, _⟩ => rfl

/-- `argsort` returns those positions. -/
theorem argsort_apply (x : IVec S16x16384 32) (b : Fin 16) (p : Fin 16384) :
    argsort x (ix2 b p) = BitVec.ofNat 32 (order x b p).val := by
  unfold argsort
  refine (sort2_snd (s := S16x16384) 1 comparator_i32_i32_d1 x (iotaInDim S16x16384 32 1) (ix2 b p)).trans ?_
  simp only [along_row]
  rfl

/-- They are a permutation. -/
theorem order_bijective (x : IVec S16x16384 32) (b : Fin 16) : Function.Bijective (order x b) :=
  ⟨sortedFrom_injective _, sortedFrom_surjective _⟩

/-- A strictly increasing self-map of `Fin n` is the identity. -/
theorem eq_id_of_strictMono {n : ℕ} (f : Fin n → Fin n) (hf : StrictMono f) : f = id :=
  funext fun k => le_antisymm hf.apply_le hf.le_apply

/-- The positions that sort a row holding a permutation `σ` are those of `σ`'s inverse. -/
theorem order_of_perm (x : IVec S16x16384 32) (b : Fin 16) (σ : Fin 16384 → Fin 16384) (hσ : Function.Injective σ)
    (h : ∀ p, x (ix2 b p) = BitVec.ofNat 32 (σ p).val) (k : Fin 16384) : σ (order x b k) = k := by
  have hB : ∀ i j, before x b i j = decide (σ i < σ j) := fun i j => by
    unfold before
    rw [h, h, WordCmp.cmpi_slt_ofNat (by have := (σ i).isLt; omega) (by have := (σ j).isLt; omega)]
    by_cases hl : (σ i).val < (σ j).val
    · simp [hl, Fin.lt_def]
    · simp [hl, Fin.lt_def]
  have hm : StrictMono fun k => σ (order x b k) := fun i j hij => by
    have hn := sortedFrom_noInversion (before x b) (before x b)
      (fun i j hR => by rw [hB] at hR ⊢; simp only [decide_eq_true_eq, decide_eq_false_iff_not] at hR ⊢; exact not_lt.2 hR.le)
      (fun i j hR => hR)
      (fun i j l h1 h2 => by
        rw [hB] at h1 h2 ⊢; simp only [decide_eq_false_iff_not, not_lt] at h1 h2 ⊢; exact h2.trans h1) i j hij
    rw [hB] at hn
    simp only [decide_eq_false_iff_not, not_lt] at hn
    exact lt_of_le_of_ne hn fun e => hij.ne (sortedFrom_injective _ (hσ e))
  exact congrFun (eq_id_of_strictMono _ hm) k

end Cert.ReferenceIdeal.Value
-- ==== Proof.Takes.lean ====
/- What the reference's gathers read: where every index is a position inside the row, the entry at that position, and
   never the fill. -/
module

public import proofs.«01_k».proof.Proof.Stages
public import Idealize.ShloMosaic.Lib.WordCmp

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The word of a number below 2^31, read signed, is that number. -/
theorem toInt_toNat_ofNat (n : ℕ) (hn : n < 2 ^ 31) : (BitVec.ofNat 32 n).toInt.toNat = n := by
  have h : (BitVec.ofNat 32 n).toNat = n := by
    rw [BitVec.toNat_ofNat]; exact Nat.mod_eq_of_lt (by omega)
  rw [BitVec.toInt_eq_toNat_of_lt (by omega), h]
  rfl

/-- A position of the row is not counted from the end. -/
theorem wrapPos_apply (i : IVec S16x16384 32) (b : Fin 16) (p : Fin 16384) (n : ℕ) (hn : n < 16384)
    (h : i (ix2 b p) = BitVec.ofNat 32 n) : wrapPos i (ix3 b p 0) = BitVec.ofNat 32 n := by
  pointwise [wrapPos, h]
  word_cmp
  exact if_neg (Nat.not_lt_zero n)

/-- The same for an index array with a trailing unit axis. -/
theorem wrapRow_apply (m : BitVec 32) (i : IVec S16x16384x1 32) (b : Fin 16) (p : Fin 16384) (n : ℕ) (hn : n < 16384)
    (h : i (ix3 b p 0) = BitVec.ofNat 32 n) : wrapRow m i (ix3 b p 0) = BitVec.ofNat 32 n := by
  pointwise [wrapRow, h]
  word_cmp
  exact if_neg (Nat.not_lt_zero n)

/-- A position up to `hi` is in range. -/
theorem inRange_apply (hi : ℕ) (hhi : hi < 16384) (k : IVec S16x16384x1 32) (b : Fin 16) (p : Fin 16384) (n : ℕ) (hn : n ≤ hi)
    (h : k (ix3 b p 0) = BitVec.ofNat 32 n) : inRange (BitVec.ofNat 32 hi) k (ix2 b p) = 1#1 := by
  pointwise [inRange, h]
  have hu : (Finset.univ : Finset (Fin 1)) = {0} := rfl
  rw [hu, Finset.fold_singleton, h]
  have h0 : IntOp.cmpi CmpIPredicate.sge (BitVec.ofNat 32 n) 0#32 = 1#1 :=
    (WordCmp.cmpi_sge_ofNat_eq_one_iff (a := n) (b := 0) (by omega) (by omega)).2 (Nat.zero_le n)
  have h1 : IntOp.cmpi CmpIPredicate.sle (BitVec.ofNat 32 n) (BitVec.ofNat 32 hi) = 1#1 :=
    (WordCmp.cmpi_sle_ofNat_eq_one_iff (by omega) (by omega)).2 hn
  rw [h0, h1]
  rfl

/-- A gather of single entries, row by row: the first axis is shared with the indices. -/
abbrev posDims : GatherDims S16x16384 S16x16384x1 S16x16384 := gather_S16x16384_S16x16384x1_S16x16384_n_1_0_0_1_2_11

/-- The gather of row entries reads the position its index names. -/
theorem gatherPos_apply {α : Type} (x : S16x16384.Idx → α) (k : IVec S16x16384x1 32) (b : Fin 16) (p q : Fin 16384)
    (h : k (ix3 b p 0) = BitVec.ofNat 32 q.val) : Host.gather posDims x k (ix2 b p) = x (ix2 b q) := by
  unfold Host.gather
  refine congrArg x (funext fun a => Fin.ext ?_)
  show posDims.start (ix2 b p) k a + posDims.batchCoord (ix2 b p) a + posDims.offCoord (ix2 b p) a = _
  have h01 : a = 0 ∨ a = 1 := by
    match a with
    | ⟨0, _⟩ => exact Or.inl rfl
    | ⟨1, _⟩ => exact Or.inr rfl
  rcases h01 with rfl | rfl
  · have hb : (0 : Fin 2) ∈ posDims.operandBatchingDims := List.mem_singleton.mpr rfl
    rw [GatherDims.start_batching _ _ _ _ hb, GatherDims.offCoord_eq_zero _ _ _ (fun h => ((GatherDims.mem_sKept _ _).mp h).2 hb)]
    unfold GatherDims.batchCoord
    rw [dif_pos hb]
    simp only [Nat.zero_add, Nat.add_zero]
    rfl
  · have hm : (1 : Fin 2) ∈ posDims.startIndexMap := List.mem_singleton.mpr rfl
    rw [GatherDims.batchCoord_eq_zero _ _ _ (show (1 : Fin 2) ∉ posDims.operandBatchingDims from (by decide : (1 : Fin 2) ∉ [0])),
      GatherDims.offCoord_eq_zero _ _ _ (fun h => ((GatherDims.mem_sKept _ _).mp h).1 (List.mem_singleton.mpr rfl))]
    unfold GatherDims.start
    rw [dif_pos hm]
    have hi : posDims.siIdx (ix2 b p) ⟨List.idxOf (1 : Fin 2) posDims.startIndexMap, List.idxOf_lt_length_iff.2 hm⟩ = ix3 b p 0 := by
      funext c
      refine Fin.ext ?_
      match c with
      | ⟨0, _⟩ => rfl
      | ⟨1, _⟩ => rfl
      | ⟨2, _⟩ => rfl
    have := q.isLt
    rw [hi, h, toInt_toNat_ofNat q.val (by omega)]
    show min q.val 16383 + 0 + 0 = q.val
    omega

/-- A gather of vectors of 64 among `N`, batch by batch. -/
def rowDims (N : ℕ) (wf : GatherDims.WF ⟨3, ![16, N, 64]⟩ S16x16384x1 S16x16384x64 [2] [1] [0] [1] [0] 2 ![1, 1, 64]) :
    GatherDims ⟨3, ![16, N, 64]⟩ S16x16384x1 S16x16384x64 where
  offsetDims := [2]
  collapsedSliceDims := [1]
  operandBatchingDims := [0]
  startIndicesBatchingDims := [0]
  startIndexMap := [1]
  indexVectorDim := 2
  sliceSizes := ![1, 1, 64]
  wf := wf

/-- The gather of vectors reads the vector its index names. -/
theorem gatherRow_apply {α : Type} (N : ℕ) (hN : N ≤ 16384)
    (wf : GatherDims.WF ⟨3, ![16, N, 64]⟩ S16x16384x1 S16x16384x64 [2] [1] [0] [1] [0] 2 ![1, 1, 64])
    (x : (⟨3, ![16, N, 64]⟩ : Shape).Idx → α) (k : IVec S16x16384x1 32) (b : Fin 16) (p : Fin 16384) (e : Fin 64) (q : Fin N)
    (h : k (ix3 b p 0) = BitVec.ofNat 32 q.val) : Host.gather (rowDims N wf) x k (ix3 b p e) = x (ix3 b q e) := by
  unfold Host.gather
  refine congrArg x (funext fun a => Fin.ext ?_)
  show (rowDims N wf).start (ix3 b p e) k a + (rowDims N wf).batchCoord (ix3 b p e) a + (rowDims N wf).offCoord (ix3 b p e) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have hb : (0 : Fin 3) ∈ (rowDims N wf).operandBatchingDims := List.mem_singleton.mpr rfl
    rw [GatherDims.start_batching _ _ _ _ hb, GatherDims.offCoord_eq_zero _ _ _ (fun h => ((GatherDims.mem_sKept _ _).mp h).2 hb)]
    unfold GatherDims.batchCoord
    rw [dif_pos hb]
    simp only [Nat.zero_add, Nat.add_zero]
    rfl
  · have hm : (1 : Fin 3) ∈ (rowDims N wf).startIndexMap := List.mem_singleton.mpr rfl
    rw [GatherDims.batchCoord_eq_zero _ _ _ (show (1 : Fin 3) ∉ (rowDims N wf).operandBatchingDims from (by decide : (1 : Fin 3) ∉ [0])),
      GatherDims.offCoord_eq_zero _ _ _ (fun h => ((GatherDims.mem_sKept _ _).mp h).1 (List.mem_singleton.mpr rfl))]
    unfold GatherDims.start
    rw [dif_pos hm]
    have hi : (rowDims N wf).siIdx (ix3 b p e) ⟨List.idxOf (1 : Fin 3) (rowDims N wf).startIndexMap, List.idxOf_lt_length_iff.2 hm⟩
        = ix3 b p 0 := by
      funext c
      refine Fin.ext ?_
      match c with
      | ⟨0, _⟩ => rfl
      | ⟨1, _⟩ => rfl
      | ⟨2, _⟩ => rfl
    have := q.isLt
    rw [hi, h, toInt_toNat_ofNat q.val (by omega)]
    show min q.val (N - 1) + 0 + 0 = q.val
    omega
  · have hk : (2 : Fin 3) ∈ (rowDims N wf).sKept :=
      (GatherDims.mem_sKept _ _).2 ⟨(by decide : (2 : Fin 3) ∉ [1]), (by decide : (2 : Fin 3) ∉ [0])⟩
    rw [GatherDims.batchCoord_eq_zero _ _ _ (show (2 : Fin 3) ∉ (rowDims N wf).operandBatchingDims from (by decide : (2 : Fin 3) ∉ [0]))]
    unfold GatherDims.start GatherDims.offCoord
    rw [dif_neg (show (2 : Fin 3) ∉ (rowDims N wf).startIndexMap from (by decide : (2 : Fin 3) ∉ [1])), dif_pos hk]
    simp only [Nat.zero_add]
    rfl

/-- A choice whose condition is 1 at an index is its first branch there. -/
theorem select_of_one {s : Shape} {α : Type} (c : IVec s 1) (x y : s.Idx → α) (j : s.Idx) (h : c j = 1#1) :
    select c x y j = x j :=
  WordCmp.select_of_eq_one h (x j) (y j)

/-- `takePos` where the index is a position of the row: the entry there. -/
theorem takePos_apply {α : Type} (x : S16x16384.Idx → α) (i : IVec S16x16384 32) (f : S16x16384.Idx → α) (b : Fin 16)
    (p q : Fin 16384) (h : i (ix2 b p) = BitVec.ofNat 32 q.val) : takePos x i f (ix2 b p) = x (ix2 b q) := by
  have hw := wrapPos_apply i b p q.val q.isLt h
  have hr := inRange_apply 16383 (by omega) (wrapPos i) b p q.val (by omega) hw
  have hg := gatherPos_apply x (wrapPos i) b p q hw
  unfold takePos
  exact (select_of_one _ _ _ _ hr).trans hg

/-- `takeRow` where the index is one of the 2048 rows: that row. -/
theorem takeRow_apply (x : FVec Ideal S16x2048x64 .f32) (i : IVec S16x16384x1 32) (b : Fin 16)
    (p : Fin 16384) (e : Fin 64) (q : Fin 2048) (h : i (ix3 b p 0) = BitVec.ofNat 32 q.val) :
    takeRow x i (ix3 b p e) = x (ix3 b q e) := by
  unfold takeRow
  have hw := wrapRow_apply 2048#32 i b p q.val (by omega) h
  have hr := inRange_apply 2047 (by omega) (wrapRow 2048#32 i) b p q.val (by omega) hw
  have hg := gatherRow_apply 2048 (by omega) gather_S16x2048x64_S16x16384x1_S16x16384x64_2_1_0_0_1_2_1164_wf x (wrapRow 2048#32 i) b p e q hw
  have hc : broadcastInDim S16x16384x64 ![0, 1] bcast_S16x16384_S16x16384x64_0_1 (inRange 2047#32 (wrapRow 2048#32 i)) (ix3 b p e)
      = 1#1 := by
    pointwise
    exact hr
  exact (select_of_one _ _ _ _ hc).trans hg

/-- `takeLong` where the index is one of the 16384 rows: that row. -/
theorem takeLong_apply (x : FVec Ideal S16x16384x64 .f32) (i : IVec S16x16384x1 32) (b : Fin 16)
    (p : Fin 16384) (e : Fin 64) (q : Fin 16384) (h : i (ix3 b p 0) = BitVec.ofNat 32 q.val) :
    takeLong x i (ix3 b p e) = x (ix3 b q e) := by
  unfold takeLong
  have hw := wrapRow_apply 16384#32 i b p q.val q.isLt h
  have hr := inRange_apply 16383 (by omega) (wrapRow 16384#32 i) b p q.val (by omega) hw
  have hg := gatherRow_apply 16384 (by omega) gather_S16x16384x64_S16x16384x1_S16x16384x64_2_1_0_0_1_2_1164_wf x (wrapRow 16384#32 i) b p e q hw
  have hc : broadcastInDim S16x16384x64 ![0, 1] bcast_S16x16384_S16x16384x64_0_1 (inRange 16383#32 (wrapRow 16384#32 i)) (ix3 b p e)
      = 1#1 := by
    pointwise
    exact hr
  exact (select_of_one _ _ _ _ hc).trans hg

/-- The remainder of a number by 2048. -/
theorem remPos_apply (x : IVec S16x16384 32) (b : Fin 16) (p : Fin 16384) (n : ℕ) (hn : n < 16384)
    (h : x (ix2 b p) = BitVec.ofNat 32 n) :
    remPos x (constantI S_ 32 2048#32) (ix2 b p) = BitVec.ofNat 32 (n % 2048) := by
  pointwise [remPos, divisor, h]
  have he : Scalar.select (IntOp.cmpi CmpIPredicate.eq 2048#32 0#32) 1#32 2048#32 = 2048#32 := by decide
  have hr : IntOp.remsi ArithUnit.host (BitVec.ofNat 32 n) 2048#32 = BitVec.ofNat 32 (n % 2048) := by
    have hx : (BitVec.ofNat 32 n).toNat = n := by rw [BitVec.toNat_ofNat]; exact Nat.mod_eq_of_lt (by omega)
    rw [IntOp.remsi_of_pos _ (by decide)]
    apply BitVec.eq_of_toNat_eq
    rw [BitVec.srem_eq, BitVec.toNat_ofNat]
    have h1 : (BitVec.ofNat 32 n).msb = false := by
      rw [BitVec.msb_eq_false_iff_two_mul_lt]; omega
    have h2 : (2048#32).msb = false := by decide
    rw [h1, h2]
    show ((BitVec.ofNat 32 n).umod 2048#32).toNat = _
    simp only [BitVec.umod_eq, BitVec.toNat_umod, hx, BitVec.toNat_ofNat]
    exact (Nat.mod_eq_of_lt (show n % 2048 < 2 ^ 32 by omega)).symm
  rw [he, hr]
  have h0 : IntOp.cmpi CmpIPredicate.slt (BitVec.ofNat 32 (n % 2048)) 0#32 = 0#1 :=
    (WordCmp.cmpi_slt_ofNat_eq_zero_iff (b := 0) (by omega) (by omega)).2 (Nat.not_lt_zero _)
  have h1 : IntOp.cmpi CmpIPredicate.slt 2048#32 0#32 = 0#1 := by decide
  rw [h0, h1, show IntOp.cmpi CmpIPredicate.ne 0#1 0#1 = 0#1 by decide]
  refine WordCmp.select_of_eq_zero ?_ _ _
  simp [IntOp.andi]

end Cert.ReferenceIdeal.Value
-- ==== Proof.Softmax.lean ====
/- Softmax over extended reals: scores that are real or −∞, at least one of them real, have weights that are nonnegative
   and sum to one; hence a weighted sum whose values agree wherever the weight is not zero is that value, infinite or not. -/
module

public import Idealize.ShloMosaic.Lib.Pointwise
public import Idealize.ShloMosaic.Lib.IdealHost

@[expose] public section

noncomputable section

namespace Cert.Softmax

open Idealize.ShloMosaic

variable {ι : Type} [Fintype ι]

/-- The exponential of a real number is the real one. -/
theorem exp_coe (r : ℝ) : Ideal.exp (r : EReal) = ((Real.exp r : ℝ) : EReal) := rfl
/-- The exponential of −∞ is 0. -/
theorem exp_bot : Ideal.exp ⊥ = 0 := rfl
/-- The square root of +∞ is +∞. -/
theorem sqrt_top : Ideal.sqrt ⊤ = ⊤ := rfl
/-- The logarithm of a positive real number is the real one. -/
theorem log_coe (r : ℝ) (h : 0 < r) : Ideal.log (r : EReal) = ((Real.log r : ℝ) : EReal) := if_neg (not_le.2 h)
/-- The square root of a nonnegative real number is the real one. -/
theorem sqrt_coe (r : ℝ) (h : 0 ≤ r) : Ideal.sqrt (r : EReal) = ((Real.sqrt r : ℝ) : EReal) := if_neg (not_lt.2 h)

/-- The exponential of a real score less `m`; 0 for a score of −∞. -/
def ex (x : EReal) (m : ℝ) : ℝ := if x = ⊥ then 0 else Real.exp (x.toReal - m)

/-- An exponential is not negative. -/
theorem ex_nonneg (x : EReal) (m : ℝ) : 0 ≤ ex x m := by
  unfold ex; split
  · exact le_refl _
  · exact (Real.exp_pos _).le

/-- The exponential of a score other than −∞ is positive. -/
theorem ex_pos (x : EReal) (m : ℝ) (h : x ≠ ⊥) : 0 < ex x m := by
  unfold ex; rw [if_neg h]; exact Real.exp_pos _

/-- The extended exponential of a score that is not +∞, less a real, is that number. -/
theorem exp_sub (x : EReal) (h : x ≠ ⊤) (m : ℝ) : Ideal.exp (x - m) = ((ex x m : ℝ) : EReal) := by
  induction x with
  | bot => rw [EReal.bot_sub, exp_bot, ex, if_pos rfl, EReal.coe_zero]
  | top => exact absurd rfl h
  | coe r =>
    rw [← EReal.coe_sub, exp_coe, ex, if_neg (EReal.coe_ne_bot r), EReal.toReal_coe]

/-- Shifting by `log s` more divides by `s`. -/
theorem ex_shift (x : EReal) (m s : ℝ) (hs : 0 < s) : ex x (Real.log s + m) = ex x m / s := by
  unfold ex; split
  · simp
  · rw [show x.toReal - (Real.log s + m) = (x.toReal - m) - Real.log s by ring, Real.exp_sub, Real.exp_log hs]

/-- A sum of reals read as extended reals. -/
theorem coe_sum (f : ι → ℝ) : ((∑ j, f j : ℝ) : EReal) = ∑ j, (f j : EReal) := by
  classical
  induction (Finset.univ : Finset ι) using Finset.induction_on with
  | empty => simp
  | insert a s ha ih => rw [Finset.sum_insert ha, Finset.sum_insert ha, EReal.coe_add, ih]

/-- A value distributes over a sum of nonnegative weights. -/
theorem mul_sum_of_nonneg (v : EReal) (p : ι → EReal) (hp : ∀ j, 0 ≤ p j) : ∑ j, v * p j = v * ∑ j, p j := by
  classical
  induction (Finset.univ : Finset ι) using Finset.induction_on with
  | empty => simp
  | insert a s ha ih =>
    rw [Finset.sum_insert ha, Finset.sum_insert ha, ih, EReal.left_distrib_of_nonneg (hp a) (Finset.sum_nonneg fun j _ => hp j)]

/-- A weighted sum with nonnegative weights of total one, of values that are `w` wherever the weight is not zero, is `w`. -/
theorem weighted_eq (p v : ι → EReal) (w : EReal) (hp : ∀ j, 0 ≤ p j) (hs : ∑ j, p j = 1) (hv : ∀ j, p j = 0 ∨ v j = w) :
    ∑ j, p j * v j = w := by
  have h : ∀ j, p j * v j = w * p j := fun j => by
    rcases hv j with h | h
    · rw [h, zero_mul, mul_zero]
    · rw [h, mul_comm]
  rw [Finset.sum_congr rfl fun j _ => h j, mul_sum_of_nonneg w p hp, hs, mul_one]

/-- The logarithm of the sum of the exponentials is real, and the exponentials of the scores less it are nonnegative,
    zero where the score is −∞, and sum to one. -/
theorem weights (x : ι → EReal) (hx : ∀ j, x j ≠ ⊤) (j₀ : ι) (h₀ : x j₀ ≠ ⊥) (m : ℝ) :
    ∃ L : ℝ, Ideal.log (∑ j, Ideal.exp (x j - m)) + m = (L : EReal) ∧ (∀ j, 0 ≤ Ideal.exp (x j - L))
      ∧ (∀ j, x j = ⊥ → Ideal.exp (x j - L) = 0) ∧ ∑ j, Ideal.exp (x j - L) = 1 := by
  have hs : 0 < ∑ j, ex (x j) m :=
    (ex_pos _ m h₀).trans_le (Finset.single_le_sum (f := fun j => ex (x j) m) (fun j _ => ex_nonneg _ m) (Finset.mem_univ j₀))
  refine ⟨Real.log (∑ j, ex (x j) m) + m, ?_, fun j => ?_, fun j hj => ?_, ?_⟩
  · rw [Finset.sum_congr rfl fun j _ => exp_sub (x j) (hx j) m, ← coe_sum, EReal.coe_add, log_coe _ hs]
  · rw [exp_sub (x j) (hx j)]
    exact EReal.coe_nonneg.2 (ex_nonneg _ _)
  · rw [exp_sub (x j) (hx j), ex, if_pos hj, EReal.coe_zero]
  · rw [Finset.sum_congr rfl fun j _ => exp_sub (x j) (hx j) _, ← coe_sum]
    simp only [ex_shift _ _ _ hs]
    rw [← Finset.sum_div, div_self hs.ne', EReal.coe_one]

/-- The greatest of such scores is real. -/
theorem fold_max_real (x : ι → EReal) (hx : ∀ j, x j ≠ ⊤) (j₀ : ι) (h₀ : x j₀ ≠ ⊥) :
    ∃ m : ℝ, Finset.fold max ⊥ x Finset.univ = (m : EReal) := by
  have hb : Finset.fold max ⊥ x Finset.univ ≠ ⊥ := fun h => by
    have := (Finset.fold_max_le (⊥ : EReal)).1 h.le
    exact h₀ (le_bot_iff.1 (this.2 j₀ (Finset.mem_univ _)))
  have ht : Finset.fold max ⊥ x Finset.univ ≠ ⊤ := fun h => by
    have : (Finset.fold max ⊥ x Finset.univ) < ⊤ := (Finset.fold_max_lt (⊤ : EReal)).2 ⟨bot_lt_top, fun j _ => lt_top_iff_ne_top.2 (hx j)⟩
    exact this.ne h
  exact ⟨_, (EReal.coe_toReal ht hb).symm⟩

/-- A real number's magnitude is below +∞. -/
theorem abs_lt_top (m : ℝ) : max (m : EReal) (-(m : EReal)) < ⊤ := by
  rw [← EReal.coe_neg]
  exact max_lt (EReal.coe_lt_top m) (EReal.coe_lt_top _)

/-- The word of the least value is −∞. -/
theorem ofBits_negInf : Ideal.ofBits .f32 0xFF800000#32 = ⊥ := by simp [Ideal.ofBits, Ideal.ieee]
/-- The word of the greatest value is +∞. -/
theorem ofBits_posInf : Ideal.ofBits .f32 0x7F800000#32 = ⊤ := by simp [Ideal.ofBits, Ideal.ieee]
/-- The small number added to a length is a positive real number. -/
theorem ofBits_eps : ∃ r : ℝ, 0 < r ∧ Ideal.ofBits .f32 0x358637BD#32 = (r : EReal) := by
  refine ⟨_, ?_, by simp [Ideal.ofBits, Ideal.ieee, -EReal.coe_mul]; rfl⟩
  positivity
/-- The factor of the scores is a real number. -/
theorem ofBits_eighth : ∃ r : ℝ, Ideal.ofBits .f32 0x3E000000#32 = (r : EReal) :=
  ⟨_, by simp [Ideal.ofBits, Ideal.ieee, -EReal.coe_mul]; rfl⟩

/-- A vector times itself over its length and a little more: a real number, also where the vector has infinite entries. -/
theorem score_real (q : ι → EReal) (ε : ℝ) (hε : 0 < ε) :
    ∃ d : ℝ, ∑ e, q e * Ideal.div (q e) (Ideal.sqrt (∑ k, q k * q k) + ε) = (d : EReal) := by
  have hsq : ∀ x : EReal, 0 ≤ x * x := fun x => by
    rcases le_total 0 x with h | h
    · exact mul_nonneg h h
    · have := mul_nonneg (EReal.neg_nonneg.2 h) (EReal.neg_nonneg.2 h)
      rwa [neg_mul_neg] at this
  by_cases hr : ∀ e, ∃ r : ℝ, q e = (r : EReal)
  · choose r hr using hr
    have hn : ∑ k, q k * q k = ((∑ k, r k * r k : ℝ) : EReal) := by
      rw [coe_sum]; exact Finset.sum_congr rfl fun k _ => by rw [hr k, EReal.coe_mul]
    have hs : 0 ≤ ∑ k, r k * r k := Finset.sum_nonneg fun k _ => mul_self_nonneg _
    have hp : 0 < Real.sqrt (∑ k, r k * r k) + ε := add_pos_of_nonneg_of_pos (Real.sqrt_nonneg _) hε
    have hd : Ideal.sqrt (∑ k, q k * q k) + ε = ((Real.sqrt (∑ k, r k * r k) + ε : ℝ) : EReal) := by
      rw [hn, EReal.coe_add, sqrt_coe _ hs]
    refine ⟨∑ e, r e * (r e * (Real.sqrt (∑ k, r k * r k) + ε)⁻¹), ?_⟩
    rw [coe_sum, hd]
    refine Finset.sum_congr rfl fun e _ => ?_
    rw [hr e, EReal.coe_mul, EReal.coe_mul, EReal.coe_inv]
    congr 1
    unfold Ideal.div
    rw [if_neg (by exact_mod_cast hp.ne')]
  · obtain ⟨e₀, he⟩ := not_forall.1 hr
    have ht : q e₀ * q e₀ = ⊤ := by
      generalize q e₀ = x at he
      induction x with
      | bot => simp
      | top => simp
      | coe r => exact absurd ⟨r, rfl⟩ he
    have hn : ∑ k, q k * q k = ⊤ :=
      top_le_iff.1 (ht ▸ Finset.single_le_sum (f := fun k => q k * q k) (fun k _ => hsq _) (Finset.mem_univ e₀))
    refine ⟨0, ?_⟩
    rw [hn]
    have hd : Ideal.sqrt ⊤ + (ε : EReal) = ⊤ := by rw [sqrt_top, EReal.top_add_coe]
    rw [hd, EReal.coe_zero]
    refine Finset.sum_eq_zero fun e _ => ?_
    unfold Ideal.div
    rw [if_neg EReal.top_ne_zero, EReal.inv_top, mul_zero, mul_zero]

end Cert.Softmax
-- ==== Proof.Attention.lean ====
/- The attention inside the chunks: every query attends only to keys at its own place in the sequence, all of which carry
   the value of that place; so each output row is the value row of its place, and each logit is a real number. -/
module

public import proofs.«01_k».proof.Proof.Takes
public import proofs.«01_k».proof.Proof.Softmax

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Softmax

/-- The slot of the sorted row at which entry `i` of chunk `c` stands. -/
def slot (c : Fin 256) (i : Fin 64) : Fin 16384 := ⟨c.val * 64 + i.val, by omega⟩

/-- The slot of key `j` of chunk `c`: the chunk's own, then those of the chunk before. -/
def keySlot (c : Fin 256) (j : Fin 128) : Fin 16384 :=
  if h : j.val < 64 then slot c ⟨j.val, h⟩
  else if h' : c.val < 1 then slot ⟨255 + c.val, by omega⟩ ⟨j.val - 64, by omega⟩
  else slot ⟨c.val - 1, by omega⟩ ⟨j.val - 64, by omega⟩

/-- Every query is among the keys of its chunk. -/
theorem keySlot_self (c : Fin 256) (i : Fin 64) : keySlot c ⟨i.val, by omega⟩ = slot c i := by
  unfold keySlot
  rw [dif_pos i.isLt]

/-- Rows taken at the sorted places, in chunks. -/
theorem chunkRows_apply (x : FVec Ideal S16x2048x64 .f32) (t : IVec S16x16384 32) (s : Fin 16 → Fin 16384 → Fin 2048)
    (ht : ∀ b p, t (ix2 b p) = BitVec.ofNat 32 (s b p).val) (b : Fin 16) (c : Fin 256) (i e : Fin 64) :
    shapeCast S16x256x64x64 (takeRow x (broadcastInDim S16x16384x1 ![0, 1] bcast_S16x16384_S16x16384x1_0_1 t))
      shapeCasts_S16x16384x64_S16x256x64x64 (ix4 b c i e) = x (ix3 b (s b (slot c i)) e) := by
  pointwise
  refine takeRow_apply x _ b (slot c i) e (s b (slot c i)) ?_
  pointwise
  exact ht b (slot c i)

/-- The places in chunks. -/
theorem chunkPos_apply (t : IVec S16x16384 32) (s : Fin 16 → Fin 16384 → Fin 2048)
    (ht : ∀ b p, t (ix2 b p) = BitVec.ofNat 32 (s b p).val) (b : Fin 16) (c : Fin 256) (i : Fin 64) :
    shapeCast S16x256x64 t shapeCasts_S16x16384_S16x256x64 (ix3 b c i) = BitVec.ofNat 32 (s b (slot c i)).val := by
  pointwise
  exact ht b (slot c i)

/-- The keys of a chunk, where the chunks' rows are a function of the slot. -/
theorem lookBack_apply (y : FVec Ideal S16x256x64x64 .f32) (g : Fin 16 → Fin 16384 → Fin 64 → EReal)
    (hy : ∀ b c i e, y (ix4 b c i e) = g b (slot c i) e) (b : Fin 16) (c : Fin 256) (j : Fin 128) (e : Fin 64) :
    lookBack y (ix4 b c j e) = g b (keySlot c j) e := by
  unfold keySlot
  pointwise [lookBack, hy]
  by_cases h : j.val < 64
  · rw [dif_pos h, dif_pos h]
  · rw [dif_neg h, dif_neg h]
    by_cases h' : c.val < 1
    · rw [dif_pos h', dif_pos h']
    · rw [dif_neg h', dif_neg h']

/-- The keys' places. -/
theorem lookBackPos_apply (t : IVec S16x256x64 32) (g : Fin 16 → Fin 16384 → BitVec 32)
    (hy : ∀ b c i, t (ix3 b c i) = g b (slot c i)) (b : Fin 16) (c : Fin 256) (j : Fin 128) :
    lookBackPos t (ix3 b c j) = g b (keySlot c j) := by
  unfold keySlot
  pointwise [lookBackPos, hy]
  by_cases h : j.val < 64
  · rw [dif_pos h, dif_pos h]
  · rw [dif_neg h, dif_neg h]
    by_cases h' : c.val < 1
    · rw [dif_pos h', dif_pos h']
    · rw [dif_neg h', dif_neg h']

/-- The bit 1 as a number. -/
theorem uitofp_one : (FloatOps.uitofp .f32 1#1 : Ideal .f32) = (1 : EReal) := by
  change (((1 : ℕ) : ℝ) : EReal) = 1
  simp

/-- The bit 0 as a number. -/
theorem uitofp_zero : (FloatOps.uitofp .f32 0#1 : Ideal .f32) = (0 : EReal) := by
  change (((0 : ℕ) : ℝ) : EReal) = 0
  simp

/-- One less one is zero. -/
theorem one_sub_one : (1 : EReal) - 1 = 0 := by
  have h := EReal.sub_self (x := ((1 : ℝ) : EReal)) (EReal.coe_ne_top _) (EReal.coe_ne_bot _)
  rwa [EReal.coe_one] at h

/-- The mask: 1 where the places agree, 0 elsewhere. -/
theorem same_apply (t : IVec S16x256x64 32) (u : IVec S16x256x128 32) (b : Fin 16) (c : Fin 256) (i : Fin 64) (j : Fin 128)
    (n k : Fin 2048) (hn : t (ix3 b c i) = BitVec.ofNat 32 n.val) (hk : u (ix3 b c j) = BitVec.ofNat 32 k.val) :
    same t u (ix4 b c i j) = if n = k then 1 else 0 := by
  pointwise [same, hn, hk]
  rw [WordCmp.cmpi_eq_ofNat (by omega) (by omega)]
  by_cases h : n = k
  · rw [if_pos h, decide_eq_true (congrArg Fin.val h)]
    exact uitofp_one
  · rw [if_neg h, decide_eq_false (fun e => h (Fin.ext e))]
    exact uitofp_zero

/-- A masked score that is kept, and one that is not. -/
theorem masked_apply (s e : FVec Ideal S16x256x64x128 .f32) (f : FVec Ideal S1x1 .f32) (hf : f (ix2 0 0) = (⊥ : EReal))
    (b : Fin 16) (c : Fin 256) (i : Fin 64) (j : Fin 128) (P : Prop) [Decidable P]
    (he : e (ix4 b c i j) = (if P then 1 else 0 : EReal)) :
    masked s e f (ix4 b c i j) = if P then s (ix4 b c i j) else (⊥ : EReal) := by
  pointwise [masked, he, hf]
  by_cases h : P
  · simp only [if_pos h]
    rw [mul_one, one_sub_one, zero_mul, add_zero]
  · simp only [if_neg h]
    rw [mul_zero, sub_zero, one_mul, zero_add]

/-- The score of a query with a key that is the same row over its length: a real number. -/
theorem scores_apply (q : FVec Ideal S16x256x64x64 .f32) (g : Fin 16 → Fin 16384 → Fin 64 → EReal)
    (hq : ∀ b c i e, q (ix4 b c i e) = g b (slot c i) e) (b : Fin 16) (c : Fin 256) (i : Fin 64) (j : Fin 128)
    (hg : g b (keySlot c j) = g b (slot c i)) :
    scores q (lookBack (unitRows q (norms q))) (ix4 b c i j)
      = (∑ e, g b (slot c i) e * Ideal.div (g b (slot c i) e)
          (Ideal.sqrt (∑ k, g b (slot c i) k * g b (slot c i) k) + Ideal.ofBits .f32 0x358637BD#32))
        * Ideal.ofBits .f32 0x3E000000#32 := by
  have hu : ∀ b c i e, unitRows q (norms q) (ix4 b c i e)
      = Ideal.div (g b (slot c i) e)
          (Ideal.sqrt (∑ k, g b (slot c i) k * g b (slot c i) k) + Ideal.ofBits .f32 0x358637BD#32) := fun b c i e => by
    pointwise [unitRows, norms, hq]
  have hl := lookBack_apply (unitRows q (norms q)) (fun b p e => Ideal.div (g b p e)
    (Ideal.sqrt (∑ k, g b p k * g b p k) + Ideal.ofBits .f32 0x358637BD#32)) hu
  pointwise [scores, hq, hl, hg]

/-- The greatest score of a row. -/
theorem topScore_apply (x : FVec Ideal S16x256x64x128 .f32) (b : Fin 16) (c : Fin 256) (i : Fin 64) (m : EReal)
    (hm : Finset.fold max ⊥ (fun j => x (ix4 b c i j)) Finset.univ = m) : topScore x (ix4 b c i 0) = m := by
  pointwise [topScore, ofBits_negInf]
  exact hm

/-- A real score is finite. -/
theorem topFinite_apply (y : FVec Ideal S16x256x64x1 .f32) (b : Fin 16) (c : Fin 256) (i : Fin 64) (m : ℝ)
    (hm : y (ix4 b c i 0) = (m : EReal)) : topFinite y (ix4 b c i 0) = 1#1 := by
  pointwise [topFinite, hm, ofBits_posInf]
  rw [Ideal.absf_def, decide_eq_true (abs_lt_top m), BitVec.ofBool_true]
  rfl

/-- The shift of the softmax where the greatest score is real. -/
theorem shift_apply (y z : FVec Ideal S16x256x64x1 .f32) (b : Fin 16) (c : Fin 256) (i : Fin 64) (m : ℝ)
    (hm : y (ix4 b c i 0) = (m : EReal)) :
    select (α := Ideal .f32) (topFinite y) y z (ix4 b c i 0) = (m : EReal) :=
  (select_of_one (topFinite y) y z (ix4 b c i 0) (topFinite_apply y b c i m hm)).trans hm

/-- Each chunk's outputs and logits: the value row of the query's place, and a real number. -/
theorem attention (qk v : FVec Ideal S16x2048x64 .f32) (f : FVec Ideal S1x1 .f32) (hf : f (ix2 0 0) = (⊥ : EReal))
    (q w : FVec Ideal S16x256x64x64 .f32) (t : IVec S16x256x64 32) (s : Fin 16 → Fin 16384 → Fin 2048)
    (hq : ∀ b c i e, q (ix4 b c i e) = qk (ix3 b (s b (slot c i)) e))
    (hw : ∀ b c i e, w (ix4 b c i e) = v (ix3 b (s b (slot c i)) e))
    (ht : ∀ b c i, t (ix3 b c i) = BitVec.ofNat 32 (s b (slot c i)).val)
    (x : FVec Ideal S16x256x64x128 .f32)
    (hx : x = masked (scores q (lookBack (unitRows q (norms q)))) (same t (lookBackPos t)) f)
    (m : FVec Ideal S16x256x64x1 .f32)
    (hm : m = select (α := Ideal .f32) (topFinite (topScore x)) (topScore x)
      (broadcastInDim S16x256x64x1 ![] bcast_S_S16x256x64x1 (constant S_ .f32 0x00000000#32)))
    (b : Fin 16) (c : Fin 256) (i : Fin 64) :
    (∃ L : ℝ, lse x m (ix4 b c i 0) = (L : EReal))
      ∧ ∀ e, weighted x (lse x m) (lookBack w) (ix4 b c i e) = v (ix3 b (s b (slot c i)) e) := by
  obtain ⟨ε, hε, hε'⟩ := ofBits_eps
  obtain ⟨r, hr⟩ := ofBits_eighth
  obtain ⟨d, hd⟩ := score_real (fun e : Fin 64 => (qk (ix3 b (s b (slot c i)) e) : EReal)) ε hε
  have hxj : ∀ j, x (ix4 b c i j) = if s b (slot c i) = s b (keySlot c j) then ((d * r : ℝ) : EReal) else ⊥ := fun j => by
    have hmask := masked_apply (scores q (lookBack (unitRows q (norms q)))) (same t (lookBackPos t)) f hf b c i j
      (s b (slot c i) = s b (keySlot c j))
      (same_apply t _ b c i j _ _ (ht b c i) (lookBackPos_apply t (fun b p => BitVec.ofNat 32 (s b p).val) ht b c j))
    rw [hx, hmask]
    by_cases h : s b (slot c i) = s b (keySlot c j)
    · rw [if_pos h, if_pos h, scores_apply q (fun b p e => qk (ix3 b (s b p) e)) hq b c i j (by simp only [h]), hε', hr, hd,
        EReal.coe_mul]
    · rw [if_neg h, if_neg h]
  have hself : x (ix4 b c i ⟨i.val, by omega⟩) ≠ (⊥ : EReal) := by
    rw [hxj, keySlot_self, if_pos rfl]; exact EReal.coe_ne_bot _
  have htop : ∀ j, x (ix4 b c i j) ≠ (⊤ : EReal) := fun j => by
    rw [hxj]; split
    · exact EReal.coe_ne_top _
    · exact bot_ne_top
  obtain ⟨μ, hμ⟩ := fold_max_real (fun j => (x (ix4 b c i j) : EReal)) htop ⟨i.val, by omega⟩ hself
  have hmb : m (ix4 b c i 0) = (μ : EReal) := by rw [hm]; exact shift_apply _ _ b c i μ (topScore_apply x b c i μ hμ)
  obtain ⟨L, hL, hnn, hz, hsum⟩ := weights (fun j => (x (ix4 b c i j) : EReal)) htop ⟨i.val, by omega⟩ hself μ
  have hl : lse x m (ix4 b c i 0) = (L : EReal) := by
    pointwise [lse, hmb]
    exact hL
  refine ⟨⟨L, hl⟩, fun e => ?_⟩
  have hlb := lookBack_apply w (fun b p e => v (ix3 b (s b p) e)) hw b c
  pointwise [weighted, hl, hlb]
  refine weighted_eq (fun j => Ideal.exp ((x (ix4 b c i j) : EReal) - L)) (fun j => (v (ix3 b (s b (keySlot c j)) e) : EReal)) _
    hnn hsum fun j => ?_
  by_cases h : s b (slot c i) = s b (keySlot c j)
  · exact Or.inr (by rw [h])
  · exact Or.inl (hz j (by rw [hxj, if_neg h]))

end Cert.ReferenceIdeal.Value
-- ==== Proof.Whole.lean ====
/- The first result from its arguments: the rows are sorted by any keys, attended to within their chunks, put back, and
   averaged over the hashes. Every hash's output of a place is the value row of that place, so the average is it too. -/
module

public import proofs.«01_k».proof.Proof.Stages
public import proofs.«01_k».proof.Proof.Sorting
public import proofs.«01_k».proof.Proof.Attention

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Softmax

/-- The tickers of every batch. -/
def tickers : IVec S16x16384 32 :=
  broadcastInDim S16x16384 ![0, 1] bcast_S1x16384_S16x16384_0_1
    (broadcastInDim S1x16384 ![1] bcast_S16384_S1x16384_1 (iotaInDim S16384 32 0))

/-- The tickers in the order of the keys. -/
def sorted (keys : IVec S16x16384 32) : IVec S16x16384 32 :=
  takePos tickers (argsort keys) (broadcastInDim S16x16384 ![] bcast_S_S16x16384 (constantI S_ 32 2147483648#32))

/-- The places in the sequence of the sorted tickers. -/
def places (keys : IVec S16x16384 32) : IVec S16x16384 32 := remPos (sorted keys) (constantI S_ 32 2048#32)

/-- The places in chunks. -/
def placeChunks (keys : IVec S16x16384 32) : IVec S16x256x64 32 :=
  shapeCast S16x256x64 (places keys) shapeCasts_S16x16384_S16x256x64

/-- The rows of `x` at the sorted places, in chunks. -/
def rowChunks (keys : IVec S16x16384 32) (x : FVec Ideal S16x2048x64 .f32) : FVec Ideal S16x256x64x64 .f32 :=
  shapeCast S16x256x64x64 (takeRow x (broadcastInDim S16x16384x1 ![0, 1] bcast_S16x16384_S16x16384x1_0_1 (places keys)))
    shapeCasts_S16x16384x64_S16x256x64x64

/-- The masked scores of the sorted rows. -/
def chunkScores (keys : IVec S16x16384 32) (qk : FVec Ideal S16x2048x64 .f32) (f : FVec Ideal S1x1 .f32) :
    FVec Ideal S16x256x64x128 .f32 :=
  masked (scores (rowChunks keys qk) (lookBack (unitRows (rowChunks keys qk) (norms (rowChunks keys qk)))))
    (same (placeChunks keys) (lookBackPos (placeChunks keys))) f

/-- A row's greatest score where it is finite, else 0. -/
def scoreShift (x : FVec Ideal S16x256x64x128 .f32) : FVec Ideal S16x256x64x1 .f32 :=
  select (α := Ideal .f32) (topFinite (topScore x)) (topScore x)
    (broadcastInDim S16x256x64x1 ![] bcast_S_S16x256x64x1 (constant S_ .f32 0x00000000#32))

/-- The sorted rows' logits. -/
def chunkLogits (keys : IVec S16x16384 32) (qk : FVec Ideal S16x2048x64 .f32) (f : FVec Ideal S1x1 .f32) :
    FVec Ideal S16x256x64x1 .f32 :=
  lse (chunkScores keys qk f) (scoreShift (chunkScores keys qk f))

/-- The sorted rows' outputs. -/
def chunkOuts (keys : IVec S16x16384 32) (qk v : FVec Ideal S16x2048x64 .f32) (f : FVec Ideal S1x1 .f32) :
    FVec Ideal S16x256x64x64 .f32 :=
  weighted (chunkScores keys qk f) (chunkLogits keys qk f) (lookBack (rowChunks keys v))

/-- The outputs put back, by hash. -/
def hashOuts (keys : IVec S16x16384 32) (qk v : FVec Ideal S16x2048x64 .f32) (f : FVec Ideal S1x1 .f32) :
    FVec Ideal S16x8x2048x64 .f32 :=
  shapeCast S16x8x2048x64
    (takeLong (shapeCast S16x16384x64 (chunkOuts keys qk v f) shapeCasts_S16x256x64x64_S16x16384x64)
      (broadcastInDim S16x16384x1 ![0, 1] bcast_S16x16384_S16x16384x1_0_1 (argsort (sorted keys))))
    shapeCasts_S16x16384x64_S16x8x2048x64

/-- The logits put back, by hash. -/
def hashLogits (keys : IVec S16x16384 32) (qk : FVec Ideal S16x2048x64 .f32) (f : FVec Ideal S1x1 .f32) :
    FVec Ideal S16x8x2048x1 .f32 :=
  shapeCast S16x8x2048x1
    (takePos (α := Ideal .f32) (shapeCast S16x16384 (chunkLogits keys qk f) shapeCasts_S16x256x64x1_S16x16384)
      (argsort (sorted keys)) (broadcastInDim S16x16384 ![] bcast_S_S16x16384 (constant S_ .f32 0x7FC00000#32)))
    shapeCasts_S16x16384_S16x8x2048x1

/-- A place's greatest logit where it is finite, else 0. -/
def logitShift (x : FVec Ideal S16x8x2048x1 .f32) : FVec Ideal S16x1x2048x1 .f32 :=
  select (α := Ideal .f32) (topLogitFinite (topLogit x)) (topLogit x)
    (broadcastInDim S16x1x2048x1 ![] bcast_S_S16x1x2048x1 (constant S_ .f32 0x00000000#32))

/-- The first result. -/
def attended (keys : IVec S16x16384 32) (qk v : FVec Ideal S16x2048x64 .f32) (f : FVec Ideal S1x1 .f32) :
    FVec Ideal S16x2048x64 .f32 :=
  combine (hashOuts keys qk v f) (hashLogits keys qk f)
    (lseHash (hashLogits keys qk f) (logitShift (hashLogits keys qk f)))

/-- The place of the `p`-th sorted ticker. -/
def placeOf (keys : IVec S16x16384 32) (b : Fin 16) (p : Fin 16384) : Fin 2048 :=
  ⟨(order keys b p).val % 2048, Nat.mod_lt _ (by decide)⟩

/-- A ticker is its number. -/
theorem tickers_apply (b : Fin 16) (p : Fin 16384) : tickers (ix2 b p) = BitVec.ofNat 32 p.val := by
  pointwise [tickers]

/-- The sorted tickers are the order of the keys. -/
theorem sorted_apply (keys : IVec S16x16384 32) (b : Fin 16) (p : Fin 16384) :
    sorted keys (ix2 b p) = BitVec.ofNat 32 (order keys b p).val :=
  (takePos_apply tickers (argsort keys) _ b p (order keys b p) (argsort_apply keys b p)).trans
    (tickers_apply b (order keys b p))

/-- Their places. -/
theorem places_apply (keys : IVec S16x16384 32) (b : Fin 16) (p : Fin 16384) :
    places keys (ix2 b p) = BitVec.ofNat 32 (placeOf keys b p).val :=
  remPos_apply (sorted keys) b p (order keys b p).val (order keys b p).isLt (sorted_apply keys b p)

/-- Sorting the sorted tickers finds where each ticker went. -/
theorem order_sorted (keys : IVec S16x16384 32) (b : Fin 16) (k : Fin 16384) :
    order keys b (order (sorted keys) b k) = k :=
  order_of_perm (sorted keys) b (order keys b) (order_bijective keys b).injective (sorted_apply keys b) k

/-- Every sorted row's logit is real and its output is the value row of its place. -/
theorem chunks_apply (keys : IVec S16x16384 32) (qk v : FVec Ideal S16x2048x64 .f32) (f : FVec Ideal S1x1 .f32)
    (hf : f (ix2 0 0) = (⊥ : EReal)) (b : Fin 16) (c : Fin 256) (i : Fin 64) :
    (∃ L : ℝ, chunkLogits keys qk f (ix4 b c i 0) = (L : EReal))
      ∧ ∀ e, chunkOuts keys qk v f (ix4 b c i e) = v (ix3 b (placeOf keys b (slot c i)) e) :=
  attention qk v f hf (rowChunks keys qk) (rowChunks keys v) (placeChunks keys) (placeOf keys)
    (fun b c i e => chunkRows_apply qk (places keys) (placeOf keys) (places_apply keys) b c i e)
    (fun b c i e => chunkRows_apply v (places keys) (placeOf keys) (places_apply keys) b c i e)
    (fun b c i => chunkPos_apply (places keys) (placeOf keys) (places_apply keys) b c i)
    (chunkScores keys qk f) rfl (scoreShift (chunkScores keys qk f)) rfl b c i

/-- A slot from its chunk and its position there. -/
theorem slot_div_mod (p : Fin 16384) : slot ⟨p.val / 64, by omega⟩ ⟨p.val % 64, by omega⟩ = p :=
  Fin.ext (by simp only [slot]; omega)

/-- The sorted outputs as one row of slots. -/
theorem outs_flat (y : FVec Ideal S16x256x64x64 .f32) (b : Fin 16) (p : Fin 16384) (e : Fin 64) :
    shapeCast S16x16384x64 y shapeCasts_S16x256x64x64_S16x16384x64 (ix3 b p e)
      = y (ix4 b ⟨p.val / 64, by omega⟩ ⟨p.val % 64, by omega⟩ e) := by
  pointwise

/-- The sorted logits as one row of slots. -/
theorem logits_flat (y : FVec Ideal S16x256x64x1 .f32) (b : Fin 16) (p : Fin 16384) :
    shapeCast S16x16384 y shapeCasts_S16x256x64x1_S16x16384 (ix2 b p)
      = y (ix4 b ⟨p.val / 64, by omega⟩ ⟨p.val % 64, by omega⟩ 0) := by
  pointwise

/-- The ticker of place `i` under hash `h`. -/
def ticket (h : Fin 8) (i : Fin 2048) : Fin 16384 := ⟨h.val * 2048 + i.val, by omega⟩

/-- Under every hash the output of a place is its value row. -/
theorem hashOuts_apply (keys : IVec S16x16384 32) (qk v : FVec Ideal S16x2048x64 .f32) (f : FVec Ideal S1x1 .f32)
    (hf : f (ix2 0 0) = (⊥ : EReal)) (b : Fin 16) (h : Fin 8) (i : Fin 2048) (e : Fin 64) :
    hashOuts keys qk v f (ix4 b h i e) = v (ix3 b i e) := by
  have hi : broadcastInDim S16x16384x1 ![0, 1] bcast_S16x16384_S16x16384x1_0_1 (argsort (sorted keys)) (ix3 b (ticket h i) 0)
      = BitVec.ofNat 32 (order (sorted keys) b (ticket h i)).val := by
    pointwise
    exact argsort_apply (sorted keys) b (ticket h i)
  have ht := (takeLong_apply (shapeCast S16x16384x64 (chunkOuts keys qk v f) shapeCasts_S16x256x64x64_S16x16384x64) _ b
    (ticket h i) e _ hi).trans (outs_flat (chunkOuts keys qk v f) b _ e)
  rw [(chunks_apply keys qk v f hf b _ _).2 e, slot_div_mod] at ht
  have hp : placeOf keys b (order (sorted keys) b (ticket h i)) = i := Fin.ext (by
    simp only [placeOf, order_sorted]
    simp only [ticket]
    omega)
  rw [hp] at ht
  pointwise [hashOuts]
  exact ht

/-- Under every hash the logit of a place is real. -/
theorem hashLogits_apply (keys : IVec S16x16384 32) (qk : FVec Ideal S16x2048x64 .f32) (f : FVec Ideal S1x1 .f32)
    (hf : f (ix2 0 0) = (⊥ : EReal)) (b : Fin 16) (h : Fin 8) (i : Fin 2048) :
    ∃ L : ℝ, hashLogits keys qk f (ix4 b h i 0) = (L : EReal) := by
  have ht := (takePos_apply (α := Ideal .f32) (shapeCast S16x16384 (chunkLogits keys qk f) shapeCasts_S16x256x64x1_S16x16384)
    (argsort (sorted keys)) (broadcastInDim S16x16384 ![] bcast_S_S16x16384 (constant S_ .f32 0x7FC00000#32)) b
    (ticket h i) (order (sorted keys) b (ticket h i)) (argsort_apply (sorted keys) b (ticket h i))).trans
    (logits_flat (chunkLogits keys qk f) b _)
  obtain ⟨L, hL⟩ := (chunks_apply keys qk qk f hf b ⟨(order (sorted keys) b (ticket h i)).val / 64, by omega⟩
    ⟨(order (sorted keys) b (ticket h i)).val % 64, by omega⟩).1
  refine ⟨L, ?_⟩
  pointwise [hashLogits]
  exact ht.trans hL

/-- A place's greatest logit. -/
theorem topLogit_apply (x : FVec Ideal S16x8x2048x1 .f32) (b : Fin 16) (i : Fin 2048) (m : EReal)
    (hm : Finset.fold max ⊥ (fun h => x (ix4 b h i 0)) Finset.univ = m) : topLogit x (ix4 b 0 i 0) = m := by
  pointwise [topLogit, ofBits_negInf]
  exact hm

/-- A real logit is finite. -/
theorem topLogitFinite_apply (y : FVec Ideal S16x1x2048x1 .f32) (b : Fin 16) (i : Fin 2048) (m : ℝ)
    (hm : y (ix4 b 0 i 0) = (m : EReal)) : topLogitFinite y (ix4 b 0 i 0) = 1#1 := by
  pointwise [topLogitFinite, hm, ofBits_posInf]
  rw [Ideal.absf_def, decide_eq_true (abs_lt_top m), BitVec.ofBool_true]
  rfl

/-- The shift of the average where the greatest logit is real. -/
theorem logitShift_apply (y z : FVec Ideal S16x1x2048x1 .f32) (b : Fin 16) (i : Fin 2048) (m : ℝ)
    (hm : y (ix4 b 0 i 0) = (m : EReal)) : select (α := Ideal .f32) (topLogitFinite y) y z (ix4 b 0 i 0) = (m : EReal) :=
  (select_of_one (topLogitFinite y) y z (ix4 b 0 i 0) (topLogitFinite_apply y b i m hm)).trans hm

/-- Equal outputs averaged under real logits are themselves. -/
theorem combine_apply (o : FVec Ideal S16x8x2048x64 .f32) (x : FVec Ideal S16x8x2048x1 .f32) (b : Fin 16) (i : Fin 2048)
    (e : Fin 64) (w : EReal) (ho : ∀ h, o (ix4 b h i e) = w) (hx : ∀ h, ∃ L : ℝ, x (ix4 b h i 0) = (L : EReal)) :
    combine o x (lseHash x (logitShift x)) (ix3 b i e) = w := by
  have htop : ∀ h, x (ix4 b h i 0) ≠ (⊤ : EReal) := fun h => by
    obtain ⟨L, hL⟩ := hx h; rw [hL]; exact EReal.coe_ne_top _
  have hbot : x (ix4 b 0 i 0) ≠ (⊥ : EReal) := by
    obtain ⟨L, hL⟩ := hx 0; rw [hL]; exact EReal.coe_ne_bot _
  obtain ⟨μ, hμ⟩ := fold_max_real (fun h => (x (ix4 b h i 0) : EReal)) htop 0 hbot
  have hm : logitShift x (ix4 b 0 i 0) = (μ : EReal) := logitShift_apply _ _ b i μ (topLogit_apply x b i μ hμ)
  obtain ⟨L, hL, hnn, -, hsum⟩ := weights (fun h => (x (ix4 b h i 0) : EReal)) htop 0 hbot μ
  have hl : lseHash x (logitShift x) (ix4 b 0 i 0) = (L : EReal) := by
    pointwise [lseHash, hm]
    exact hL
  pointwise [combine, hl, ho]
  refine (Finset.sum_congr rfl fun h _ => mul_comm _ _).trans ?_
  exact weighted_eq (fun h => Ideal.exp ((x (ix4 b h i 0) : EReal) - L)) (fun _ => w) w hnn hsum fun _ => Or.inr rfl

/-- The first result is the values. -/
theorem attended_eq (keys : IVec S16x16384 32) (qk v : FVec Ideal S16x2048x64 .f32) (f : FVec Ideal S1x1 .f32)
    (hf : f (ix2 0 0) = (⊥ : EReal)) : attended keys qk v f = v := by
  refine funext fun j => ?_
  obtain ⟨b, i, e, rfl⟩ : ∃ (b : Fin 16) (i : Fin 2048) (e : Fin 64), j = ix3 b i e := ⟨_, _, _, ValueIdx.eq_ix3 j⟩
  exact combine_apply _ _ _ _ _ _ (fun h => hashOuts_apply keys qk v f hf _ h _ _) fun h => hashLogits_apply keys qk f hf _ h _

end Cert.ReferenceIdeal.Value
-- ==== Proof.Lists.lean ====
/- The reference's host operations list by list: what the buffers hold after the first few lists, and the buffers a stretch
   of lists leaves alone. -/
module

public import proofs.«01_k».proof.Proof.Gen.ReferenceIdeal.Frame

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The buffers after the first `k` lists. -/
def upTo (L : ℕ → List (HloOp τ sig (Elt Ideal))) (V : Valuation τ sig (Elt Ideal)) : ℕ → Valuation τ sig (Elt Ideal)
  | 0 => V
  | k + 1 => StableHlo.after (L k) (upTo L V k)

/-- A buffer no list from `i` to `j` writes holds after the first `j` what it held after the first `i`. -/
theorem upTo_keep (L : ℕ → List (HloOp τ sig (Elt Ideal))) (W : ℕ → List (Ref sig .tc))
    (hW : ∀ k, (L k).Forall fun op => op.writes ⊆ ((W k).map (Proc.devRef (τ := τ) .tc)).toFinset)
    (V : Valuation τ sig (Elt Ideal)) (r : Ref sig .tc) (i j : ℕ) (hij : i ≤ j) (h : ∀ k, k < j → i ≤ k → r ∉ W k) :
    upTo L V j (Proc.devRef .tc r) = upTo L V i (Proc.devRef .tc r) := by
  induction j with
  | zero => rw [Nat.le_zero.mp hij]
  | succ j ih =>
    rcases Nat.lt_or_ge j i with hj | hj
    · rw [show i = j + 1 by omega]
    · exact (StableHlo.after_of_writes_sub (L j) (upTo L V j) (hW j) (h j (Nat.lt_succ_self j) hj)).trans
        (ih hj fun k hk hik => h k (Nat.lt_succ_of_lt hk) hik)

/-- The lists before the mask's fill. -/
def front : ℕ → List (HloOp τ sig (Elt Ideal))
  | 0 => hostOps0
  | 1 => hostOps0_1
  | 2 => hostOps0_2
  | 3 => hostOps0_3
  | 4 => hostOps0_4
  | 5 => hostOps0_5
  | 6 => hostOps0_6
  | 7 => hostOps0_7
  | 8 => hostOps0_8
  | 9 => hostOps0_9
  | 10 => hostOps0_10
  | 11 => hostOps0_11
  | 12 => hostOps0_12
  | 13 => hostOps0_13
  | 14 => hostOps0_14
  | 15 => hostOps0_15
  | 16 => hostOps0_16
  | 17 => hostOps0_17
  | 18 => hostOps0_18
  | _ => []

/-- What each of them writes. -/
def frontWrites : ℕ → List (Ref sig .tc)
  | 0 => [main_v0, main_v1, main_v2, main_v3, main_v4]
  | 1 => [main_call0_v0, main_call0_cst, main_call0_c, main_call0_v1_0, main_v5]
  | 2 => [main_v6, main_c, main_v7, main_v8, main_v9, main_v10, main_v11, main_v12, main_v13, main_v14,
      main_c_0, main_v15, main_v16, main_c_1]
  | 3 => [main_call1_v0, main_call1_c, main_call1_v1, main_call1_c_0, main_call1_v2, main_call1_v3,
      main_call1_v4, main_call1_c_1, main_call1_v5, main_call1_v6, main_call1_c_2, main_call1_v7,
      main_call1_v8, main_call1_c_3, main_call1_v9, main_call1_v10, main_call1_v11, main_call1_v12,
      main_call1_v13, main_call1_v14, main_v17]
  | 4 => [main_v18, main_v19]
  | 5 => [main_call2_v0, main_call2_v1_0, main_v20]
  | 6 => [main_call3_c, main_call3_v0, main_call3_v1, main_call3_c_0, main_call3_v2, main_call3_v3,
      main_call3_v4, main_call3_v5, main_call3_c_1, main_call3_c_2, main_call3_v6, main_call3_v7,
      main_call3_v8, main_call3_v9, main_call3_v10, main_call3_v11, main_call3_c_3, main_call3_v12,
      main_call3_v13, main_call3_c_4, main_call3_v14, main_v21]
  | 7 => [main_v22]
  | 8 => [main_call4_c, main_call4_v0, main_call4_v1, main_call4_c_0, main_call4_v2, main_call4_v3,
      main_call4_v4, main_call4_v5, main_call4_c_1, main_call4_c_2, main_call4_v6, main_call4_v7,
      main_call4_v8, main_call4_v9, main_call4_v10, main_call4_v11, main_call4_c_3, main_call4_v12,
      main_call4_v13, main_call4_c_4, main_call4_v14, main_v23]
  | 9 => [main_call5_v0, main_call5_v1_0, main_v24]
  | 10 => [main_c_2]
  | 11 => [main_call6_v0, main_call6_c, main_call6_v1, main_call6_c_0, main_call6_v2, main_call6_v3,
      main_call6_v4, main_call6_c_1, main_call6_v5, main_call6_v6, main_call6_c_2, main_call6_v7,
      main_call6_v8, main_call6_c_3, main_call6_v9, main_call6_v10, main_call6_v11, main_call6_v12,
      main_call6_v13, main_call6_v14, main_v25]
  | 12 => [main_v26]
  | 13 => [main_call7_c, main_call7_v0, main_call7_v1, main_call7_c_0, main_call7_v2, main_call7_v3,
      main_call7_v4, main_call7_c_1, main_call7_c_2, main_call7_v5, main_call7_v6, main_call7_v7,
      main_call7_v8, main_call7_v9, main_call7_v10, main_call7_c_3, main_call7_v11, main_call7_v12,
      main_call7_v13, main_call7_cst, main_call7_v14, main_v27]
  | 14 => [main_v28]
  | 15 => [main_call8_c, main_call8_v0, main_call8_v1, main_call8_c_0, main_call8_v2, main_call8_v3,
      main_call8_v4, main_call8_c_1, main_call8_c_2, main_call8_v5, main_call8_v6, main_call8_v7,
      main_call8_v8, main_call8_v9, main_call8_v10, main_call8_c_3, main_call8_v11, main_call8_v12,
      main_call8_v13, main_call8_cst, main_call8_v14, main_v29]
  | 16 => [main_v30, main_v31, main_v32]
  | 17 => [main_call9_v0, main_call9_cst, main_call9_v1, main_call9_v2, main_v33]
  | 18 => [main_cst, main_v34, main_v35, main_v36, main_v37, main_v38, main_v39, main_v40, main_v41, main_v42,
      main_v43, main_v44, main_v45, main_v46, main_v47, main_v48, main_v49, main_v50, main_cst_3, main_v51,
      main_v52, main_v53, main_v54, main_v55, main_v56, main_v57, main_v58, main_cst_4, main_v59]
  | _ => []

/-- Each writes no other buffer. -/
theorem front_writes (k : ℕ) :
    (front k).Forall fun op => op.writes ⊆ ((frontWrites k).map (Proc.devRef (τ := τ) .tc)).toFinset := by
  unfold front frontWrites
  split <;> exact StableHlo.forall_writes_sub_of_map rfl

/-- The lists after it. -/
def back : ℕ → List (HloOp τ sig (Elt Ideal))
  | 0 => hostOps1
  | 1 => hostOps1_1
  | 2 => hostOps1_2
  | 3 => hostOps1_3
  | 4 => hostOps1_4
  | 5 => hostOps1_5
  | 6 => hostOps1_6
  | 7 => hostOps1_7
  | _ => []

/-- What each of them writes. -/
def backWrites : ℕ → List (Ref sig .tc)
  | 0 => hostOps1_W
  | 1 => hostOps1_1_W
  | 2 => hostOps1_2_W
  | 3 => hostOps1_3_W
  | 4 => hostOps1_4_W
  | 5 => hostOps1_5_W
  | 6 => hostOps1_6_W
  | 7 => hostOps1_7_W
  | _ => []

/-- Each writes no other buffer. -/
theorem back_writes (k : ℕ) :
    (back k).Forall fun op => op.writes ⊆ ((backWrites k).map (Proc.devRef (τ := τ) .tc)).toFinset := by
  unfold back backWrites
  split <;> exact StableHlo.forall_writes_sub_of_map rfl

variable (V : Valuation τ sig (Elt Ideal))

/-- A buffer that lists `i` to `j` before the fill leave alone. -/
theorem front_keep (r : Ref sig .tc) (i j : ℕ) (hij : i ≤ j) (h : ∀ k, k < j → i ≤ k → r ∉ frontWrites k) :
    upTo front V j (Proc.devRef .tc r) = upTo front V i (Proc.devRef .tc r) :=
  upTo_keep front frontWrites front_writes V r i j hij h

/-- A buffer that lists `i` to `j` after the fill leave alone. -/
theorem back_keep (r : Ref sig .tc) (i j : ℕ) (hij : i ≤ j) (h : ∀ k, k < j → i ≤ k → r ∉ backWrites k) :
    upTo back V j (Proc.devRef .tc r) = upTo back V i (Proc.devRef .tc r) :=
  upTo_keep back backWrites back_writes V r i j hij h

/-- All the lists before the fill. -/
theorem after_front : StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) V
    = upTo front V 19 := by
  simp only [List.flatten_cons, List.flatten_nil, List.append_nil, StableHlo.after_append]
  rfl

/-- All the lists after it. -/
theorem after_back : StableHlo.after (List.flatten [hostOps1, hostOps1_1, hostOps1_2, hostOps1_3, hostOps1_4, hostOps1_5, hostOps1_6, hostOps1_7]) V
    = upTo back V 8 := by
  simp only [List.flatten_cons, List.flatten_nil, List.append_nil, StableHlo.after_append]
  rfl

end Cert.ReferenceIdeal.Value
-- ==== Proof.Chain.lean ====
/- What the reference's lists leave in the buffers that matter: before the mask's fill the sorted rows, the mask and the
   buckets; after it the two results. -/
module

public import proofs.«01_k».proof.Proof.Whole
public import proofs.«01_k».proof.Proof.Lists

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable (V : Valuation τ sig (Elt Ideal))

/-- The keys the tickers are sorted by. -/
def keysOf : IVec S16x16384 32 := upTo front V 5 (Proc.devRef .tc main_v19)

/-- The second result: the buckets. -/
theorem front_v12 (j : ℕ) (hj : 3 ≤ j) (h : ∀ k, k < j → 3 ≤ k → main_v12 ∉ frontWrites k) :
    upTo front V j (Proc.devRef .tc main_v12)
      = bucketIds (argmax (rotated (V (Proc.devRef .tc main_arg2)) (V (Proc.devRef .tc main_arg0)))) := by
  rw [front_keep V main_v12 3 j hj h]
  exact (after0_2_v12 (upTo front V 2)).trans
    (congrArg bucketIds ((after0_1_v5 (upTo front V 1)).trans (congrArg argmax (after0_v4 V))))

/-- The tickers of every batch. -/
theorem front_v22 : upTo front V 8 (Proc.devRef .tc main_v22) = tickers := by
  refine (after0_7_v22 (upTo front V 7)).trans ?_
  rw [front_keep V main_v14 3 7 (by decide) (by decide +kernel)]
  exact congrArg (broadcastInDim S16x16384 ![0, 1] bcast_S1x16384_S16x16384_0_1) (after0_2_v14 (upTo front V 2))

/-- The positions that sort the keys. -/
theorem front_v20 : upTo front V 8 (Proc.devRef .tc main_v20) = argsort (keysOf V) :=
  (front_keep V main_v20 6 8 (by decide) (by decide +kernel)).trans (after0_5_v20 (upTo front V 5))

/-- The sorted tickers. -/
theorem front_v23 : upTo front V 9 (Proc.devRef .tc main_v23) = sorted (keysOf V) := by
  refine (after0_8_v23 (upTo front V 8)).trans ?_
  rw [front_v22, front_v20]
  rfl

/-- The positions that put them back. -/
theorem front_v24 : upTo front V 19 (Proc.devRef .tc main_v24) = argsort (sorted (keysOf V)) :=
  (front_keep V main_v24 10 19 (by decide) (by decide +kernel)).trans
    ((after0_9_v24 (upTo front V 9)).trans (congrArg argsort (front_v23 V)))

/-- The sorted tickers' places. -/
theorem front_v25 (j : ℕ) (hj : 12 ≤ j) (h : ∀ k, k < j → 12 ≤ k → main_v25 ∉ frontWrites k) :
    upTo front V j (Proc.devRef .tc main_v25) = places (keysOf V) := by
  rw [front_keep V main_v25 12 j hj h]
  refine (after0_11_v25 (upTo front V 11)).trans ?_
  rw [front_keep V main_v23 9 11 (by decide) (by decide +kernel), front_v23]
  exact congrArg (remPos (sorted (keysOf V))) (after0_10_c_2 (upTo front V 10))

/-- The places in chunks. -/
theorem front_v30 : upTo front V 18 (Proc.devRef .tc main_v30) = placeChunks (keysOf V) := by
  rw [front_keep V main_v30 17 18 (by decide) (by decide +kernel)]
  refine (after0_16_v30 (upTo front V 16)).trans ?_
  rw [front_v25 V 16 (by decide) (by decide +kernel)]
  rfl

/-- The query rows in chunks. -/
theorem front_v31 (j : ℕ) (hj : 17 ≤ j) (h : ∀ k, k < j → 17 ≤ k → main_v31 ∉ frontWrites k) :
    upTo front V j (Proc.devRef .tc main_v31) = rowChunks (keysOf V) (V (Proc.devRef .tc main_arg0)) := by
  rw [front_keep V main_v31 17 j hj h]
  refine (after0_16_v31 (upTo front V 16)).trans ?_
  rw [front_keep V main_v27 14 16 (by decide) (by decide +kernel)]
  refine congrArg (fun x => shapeCast S16x256x64x64 x shapeCasts_S16x16384x64_S16x256x64x64)
    ((after0_13_v27 (upTo front V 13)).trans ?_)
  rw [front_keep V main_arg0 0 13 (by decide) (by decide +kernel)]
  refine congrArg (takeRow (V (Proc.devRef .tc main_arg0))) ((after0_12_v26 (upTo front V 12)).trans ?_)
  rw [front_v25 V 12 (by decide) (by decide +kernel)]

/-- The value rows in chunks. -/
theorem front_v32 : upTo front V 18 (Proc.devRef .tc main_v32) = rowChunks (keysOf V) (V (Proc.devRef .tc main_arg1)) := by
  rw [front_keep V main_v32 17 18 (by decide) (by decide +kernel)]
  refine (after0_16_v32 (upTo front V 16)).trans ?_
  refine congrArg (fun x => shapeCast S16x256x64x64 x shapeCasts_S16x16384x64_S16x256x64x64)
    ((after0_15_v29 (upTo front V 15)).trans ?_)
  rw [front_keep V main_arg1 0 15 (by decide) (by decide +kernel)]
  refine congrArg (takeRow (V (Proc.devRef .tc main_arg1))) ((after0_14_v28 (upTo front V 14)).trans ?_)
  rw [front_v25 V 14 (by decide) (by decide +kernel)]

/-- The query rows' lengths. -/
theorem front_v33 : upTo front V 18 (Proc.devRef .tc main_v33)
    = norms (rowChunks (keysOf V) (V (Proc.devRef .tc main_arg0))) :=
  (after0_17_v33 (upTo front V 17)).trans (congrArg norms (front_v31 V 17 (by decide) (by decide +kernel)))

/-- The value rows of every chunk and the one before. -/
theorem front_v45 : upTo front V 19 (Proc.devRef .tc main_v45)
    = lookBack (rowChunks (keysOf V) (V (Proc.devRef .tc main_arg1))) :=
  (after0_18_v45 (upTo front V 18)).trans (congrArg lookBack (front_v32 V))

/-- The scores. -/
theorem front_v52 : upTo front V 19 (Proc.devRef .tc main_v52)
    = scores (rowChunks (keysOf V) (V (Proc.devRef .tc main_arg0)))
        (lookBack (unitRows (rowChunks (keysOf V) (V (Proc.devRef .tc main_arg0)))
          (norms (rowChunks (keysOf V) (V (Proc.devRef .tc main_arg0)))))) := by
  refine (after0_18_v52 (upTo front V 18)).trans ?_
  rw [front_v31 V 18 (by decide) (by decide +kernel), front_v33]

/-- The mask. -/
theorem front_v58 : upTo front V 19 (Proc.devRef .tc main_v58)
    = same (placeChunks (keysOf V)) (lookBackPos (placeChunks (keysOf V))) := by
  refine (after0_18_v58 (upTo front V 18)).trans ?_
  rw [front_v30]

/-- The one the mask's fill is made of. -/
theorem front_v59 : upTo front V 19 (Proc.devRef .tc main_v59)
    = broadcastInDim S1x1 ![] bcast_S_S1x1 (constant (F := Ideal) S_ .f32 0x3F800000#32) :=
  after0_18_v59 (upTo front V 18)

/-- The masked scores, their shift, and the logits. -/
theorem back_v110 (keys : IVec S16x16384 32) (qk v : FVec Ideal S16x2048x64 .f32) (f : FVec Ideal S1x1 .f32)
    (h24 : V (Proc.devRef .tc main_v24) = argsort (sorted keys))
    (h45 : V (Proc.devRef .tc main_v45) = lookBack (rowChunks keys v))
    (h67 : masked (V (Proc.devRef .tc main_v52)) (V (Proc.devRef .tc main_v58)) (V (Proc.devRef .tc main_v60))
      = chunkScores keys qk f) :
    upTo back V 8 (Proc.devRef .tc main_v110) = attended keys qk v f := by
  have e67 : upTo back V 2 (Proc.devRef .tc main_v67) = chunkScores keys qk f := by
    rw [back_keep V main_v67 1 2 (by decide) (by decide +kernel)]
    exact (after1_v67 V).trans h67
  have e69 : upTo back V 1 (Proc.devRef .tc main_v69) = topScore (chunkScores keys qk f) :=
    (after1_v69 V).trans (congrArg topScore h67)
  have e72 : upTo back V 1 (Proc.devRef .tc main_v72) = topFinite (topScore (chunkScores keys qk f)) :=
    (after1_v72 V).trans (congrArg (fun x => topFinite (topScore x)) h67)
  have e8 : upTo back V 1 (Proc.devRef .tc main_cst_8) = constant (F := Ideal) S_ .f32 0x00000000#32 := after1_cst_8 V
  have e73 : upTo back V 2 (Proc.devRef .tc main_v73) = scoreShift (chunkScores keys qk f) := by
    refine (after1_1_v73 (upTo back V 1)).trans ?_
    rw [e69, e72, e8]
    rfl
  have e45 : upTo back V 2 (Proc.devRef .tc main_v45) = lookBack (rowChunks keys v) :=
    (back_keep V main_v45 0 2 (by decide) (by decide +kernel)).trans h45
  have e85 : upTo back V 3 (Proc.devRef .tc main_v85)
      = shapeCast S16x16384x64 (chunkOuts keys qk v f) shapeCasts_S16x256x64x64_S16x16384x64 := by
    refine (after1_2_v85 (upTo back V 2)).trans ?_
    rw [e67, e73, e45]
    rfl
  have e86 : upTo back V 4 (Proc.devRef .tc main_v86)
      = shapeCast S16x16384 (chunkLogits keys qk f) shapeCasts_S16x256x64x1_S16x16384 := by
    rw [back_keep V main_v86 3 4 (by decide) (by decide +kernel)]
    refine (after1_2_v86 (upTo back V 2)).trans ?_
    rw [e67, e73]
    rfl
  have e24 : ∀ j, (∀ k, k < j → 0 ≤ k → main_v24 ∉ backWrites k) →
      upTo back V j (Proc.devRef .tc main_v24) = argsort (sorted keys) := fun j h =>
    (back_keep V main_v24 0 j (Nat.zero_le j) h).trans h24
  have e87 : upTo back V 3 (Proc.devRef .tc main_v87)
      = broadcastInDim S16x16384x1 ![0, 1] bcast_S16x16384_S16x16384x1_0_1 (argsort (sorted keys)) := by
    refine (after1_2_v87 (upTo back V 2)).trans ?_
    rw [e24 2 (by decide +kernel)]
  have e90 : upTo back V 6 (Proc.devRef .tc main_v90) = hashOuts keys qk v f := by
    refine (after1_5_v90 (upTo back V 5)).trans ?_
    rw [back_keep V main_v88 4 5 (by decide) (by decide +kernel)]
    refine congrArg (fun x => shapeCast S16x8x2048x64 x shapeCasts_S16x16384x64_S16x8x2048x64)
      ((after1_3_v88 (upTo back V 3)).trans ?_)
    rw [e85, e87]
  have e89 : shapeCast S16x8x2048x1 (upTo back V 5 (Proc.devRef .tc main_v89)) shapeCasts_S16x16384_S16x8x2048x1
      = hashLogits keys qk f := by
    refine congrArg (fun x => shapeCast S16x8x2048x1 x shapeCasts_S16x16384_S16x8x2048x1)
      ((after1_4_v89 (upTo back V 4)).trans ?_)
    rw [e86, e24 4 (by decide +kernel)]
  have e91 : upTo back V 6 (Proc.devRef .tc main_v91) = hashLogits keys qk f := (after1_5_v91 (upTo back V 5)).trans e89
  have e93 : upTo back V 6 (Proc.devRef .tc main_v93) = topLogit (hashLogits keys qk f) :=
    (after1_5_v93 (upTo back V 5)).trans (congrArg topLogit e89)
  have e96 : upTo back V 6 (Proc.devRef .tc main_v96) = topLogitFinite (topLogit (hashLogits keys qk f)) :=
    (after1_5_v96 (upTo back V 5)).trans (congrArg (fun x => topLogitFinite (topLogit x)) e89)
  have e12 : upTo back V 6 (Proc.devRef .tc main_cst_12) = constant (F := Ideal) S_ .f32 0x00000000#32 :=
    after1_5_cst_12 (upTo back V 5)
  have e97 : upTo back V 7 (Proc.devRef .tc main_v97) = logitShift (hashLogits keys qk f) := by
    refine (after1_6_v97 (upTo back V 6)).trans ?_
    rw [e93, e96, e12]
    rfl
  refine (after1_7_v110 (upTo back V 7)).trans ?_
  rw [e97, back_keep V main_v90 6 7 (by decide) (by decide +kernel), e90,
    back_keep V main_v91 6 7 (by decide) (by decide +kernel), e91]
  rfl

end Cert.ReferenceIdeal.Value
-- ==== Proof.RefValue.lean ====
/- The reference's run: its first result is its second argument, its second result the bucket of every vector under every
   hash, and its arguments end as they began. -/
module

public import proofs.«01_k».proof.Proof.Chain
public import Idealize.ShloMosaic.Lib.Pipeline.ValueKit
public import Idealize.ShloMosaic.Lib.Claim

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Idealize.ShloMosaic.Pipeline (Dat)

variable (m : (ℓ : Loc nD τ sig) → Buf (Elt Ideal) ℓ) (ρ : Dev nD → PrngReg)

/-- Both windows' only block is the first. -/
theorem idx : ∀ t : Fin cfg0.N, win0_0.index t = ![0, 0] ∧ win0_1.index t = ![0, 0] :=
  (by decide +kernel : ∀ t : Fin grid0.N, _)

/-- The fill's array after its kernel: the kernel's product over the whole array of ones. -/
theorem fill_final (c : Dev nD) : (dats m 0 c).arrAt 1 (cfgs 0).N = k0_pay1 (V m c main_v59) := by
  refine (dats m 0 c).arrAt_eq_of_after_last 1 t0_0 (by decide +kernel) _ fun j => ?_
  blk_simp
  rw [after0_1]
  frame_out
  pointwise [k0_pay1]
  blk_point [iblk, idx t0_0]

/-- One times the fill's name is minus infinity. -/
theorem fill_bot (x : FVec Ideal S1x1 .f32) (hx : x (ix2 0 0) = (1 : EReal)) :
    k0_pay1 (F := Ideal) x (ix2 0 0) = (⊥ : EReal) := by
  pointwise [k0_pay1, hx]
  exact IdealRules.named_const.ideal_named_scalar (κ := κ) (name := "mask") _ ⊥ rfl

/-- The buffers when the fill's kernel ends. -/
abbrev mid (c : Dev nD) : Valuation τ sig (Elt Ideal) :=
  Pipeline.withArrays (cfgs 0).spec c (V0 m c) fun w => (dats m 0 c).arrAt w (cfgs 0).N

/-- A buffer that is not one of the kernel's two arrays holds what it held before. -/
theorem mid_of_ne (c : Dev nD) (r : Ref sig .tc) (hr : ∀ w, Pipeline.arrRef spec0 w ≠ r) :
    mid m c (Proc.devRef .tc r) = upTo front (fun b => m (c, b)) 19 (Proc.devRef .tc r) := by
  rw [← after_front]
  exact Pipeline.withArrays_of_ne _ c (V0 m c) _ r hr

/-- The fill is minus infinity. -/
theorem mid_fill (c : Dev nD) : mid m c (Proc.devRef .tc main_v60) (ix2 0 0) = (⊥ : EReal) := by
  have h : mid m c (Proc.devRef .tc main_v60) = k0_pay1 (V m c main_v59) :=
    (Pipeline.withArrays_arr spec0 (by decide +kernel) c (V0 m c) _ 1).trans (fill_final m c)
  rw [h]
  refine fill_bot _ ?_
  have h59 : V m c main_v59 = broadcastInDim S1x1 ![] bcast_S_S1x1 (constant (F := Ideal) S_ .f32 0x3F800000#32) := by
    rw [← front_v59 (fun b => m (c, b)), ← after_front]
  rw [h59]
  pointwise

/-- The first result. -/
theorem v110_eq (c : Dev nD) :
    Pipeline.afterTail₀ cfgs (dats m) 0 (V0 m) [hostOps1, hostOps1_1, hostOps1_2, hostOps1_3, hostOps1_4, hostOps1_5, hostOps1_6, hostOps1_7] c main_v110
      = m ((c : Thread nD τ).loc main_arg1) := by
  unfold Pipeline.afterTail₀
  rw [after_back]
  refine (back_v110 (mid m c) (keysOf fun b => m (c, b)) (m ((c : Thread nD τ).loc main_arg0))
    (m ((c : Thread nD τ).loc main_arg1)) (mid m c (Proc.devRef .tc main_v60)) ?_ ?_ ?_).trans
    (attended_eq _ _ _ _ (mid_fill m c))
  · rw [mid_of_ne m c main_v24 (by decide), front_v24]
  · rw [mid_of_ne m c main_v45 (by decide), front_v45]
  · rw [mid_of_ne m c main_v52 (by decide), mid_of_ne m c main_v58 (by decide), front_v52, front_v58]
    rfl

/-- The second result. -/
theorem v12_eq (c : Dev nD) :
    Pipeline.afterTail₀ cfgs (dats m) 0 (V0 m) [hostOps1, hostOps1_1, hostOps1_2, hostOps1_3, hostOps1_4, hostOps1_5, hostOps1_6, hostOps1_7] c main_v12
      = bucketIds (argmax (rotated (m ((c : Thread nD τ).loc main_arg2)) (m ((c : Thread nD τ).loc main_arg0)))) := by
  unfold Pipeline.afterTail₀
  rw [after_back]
  refine (back_keep (mid m c) main_v12 0 8 (by decide) (by decide +kernel)).trans ?_
  refine (mid_of_ne m c main_v12 (by decide)).trans ?_
  exact front_v12 _ 19 (by decide) (by decide +kernel)

/-- THE RUN of the reference. -/
theorem run : θ_run defs (onTc (τ := τ) (main (F := Ideal))) ⟨m, fun _ => 0, ρ⟩ (fun r => ∀ c : Dev nD,
    r.2.mem ((c.tc : Thread nD τ).loc main_v110) = m ((c.tc : Thread nD τ).loc main_arg1)
    ∧ r.2.mem ((c.tc : Thread nD τ).loc main_v12)
      = bucketIds (argmax (rotated (m ((c.tc : Thread nD τ).loc main_arg2)) (m ((c.tc : Thread nD τ).loc main_arg0))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨((h c).2 main_v110 (Pipeline.mem_restRefs_of main_v110 (by decide) (by decide))).trans (v110_eq m c),
      ((h c).2 main_v12 (Pipeline.mem_restRefs_of main_v12 (by decide) (by decide))).trans (v12_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

open Cert.ReferenceIdeal.Value (rotated argmax bucketIds) in
/-- The kernel and the reference, from equal arguments, end with equal results: the values themselves, and the buckets. -/
theorem equal_results : Cert.algebraic_KernelIdeal_ReferenceIdeal (hKernelIdeal := Cert.KernelIdeal.Gen.facts)
    (hReferenceIdeal := Cert.ReferenceIdeal.Gen.facts) := by
  intro m g m' g' _ h
  refine ⟨fun c => m ((c.tc : Thread Cert.KernelIdeal.nD Cert.KernelIdeal.τ).loc Cert.KernelIdeal.main_arg1),
    fun c => bucketIds (argmax (rotated
      (m ((c.tc : Thread Cert.KernelIdeal.nD Cert.KernelIdeal.τ).loc Cert.KernelIdeal.main_arg2))
      (m ((c.tc : Thread Cert.KernelIdeal.nD Cert.KernelIdeal.τ).loc Cert.KernelIdeal.main_arg0)))),
    Cert.KernelIdeal.Value.run m g, ?_⟩
  refine (θ_run Cert.ReferenceIdeal.defs _ _).mono (fun r hr c => ?_) (Cert.ReferenceIdeal.Value.run m' g')
  obtain ⟨e0, e1, e2⟩ := h c
  obtain ⟨r1, r2, r3⟩ := hr c
  refine ⟨r1.trans e1, r2.trans ?_, r3⟩
  rw [e0, e2]

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, equal_results⟩

end Cert.Proof

end
